-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S128x2048 : Shape := ⟨2, ![128, 2048]⟩
abbrev S1024x4096 : Shape := ⟨2, ![1024, 4096]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S32x512 : Shape := ⟨2, ![32, 512]⟩
abbrev S32 : Shape := ⟨1, ![32]⟩
abbrev S2048x1024 : Shape := ⟨2, ![2048, 1024]⟩
abbrev S2048 : Shape := ⟨1, ![2048]⟩
abbrev S1x1024 : Shape := ⟨2, ![1, 1024]⟩
abbrev S1x512 : Shape := ⟨2, ![1, 512]⟩
abbrev S1x32 : Shape := ⟨2, ![1, 32]⟩
abbrev S1x2048 : Shape := ⟨2, ![1, 2048]⟩
abbrev S128x32 : Shape := ⟨2, ![128, 32]⟩
abbrev S8x128x4096 : Shape := ⟨3, ![8, 128, 4096]⟩
abbrev S2x512x1024 : Shape := ⟨3, ![2, 512, 1024]⟩
abbrev S4x512x1024 : Shape := ⟨3, ![4, 512, 1024]⟩
abbrev S128x1024 : Shape := ⟨2, ![128, 1024]⟩
abbrev S20 : Shape := ⟨1, ![20]⟩
abbrev S4 : Shape := ⟨1, ![4]⟩
abbrev S1 : Shape := ⟨1, ![1]⟩
abbrev S_ : Shape := ⟨0, ![]⟩
abbrev S1x128x4096 : Shape := ⟨3, ![1, 128, 4096]⟩
abbrev S128x128 : Shape := ⟨2, ![128, 128]⟩
abbrev S1x512x1024 : Shape := ⟨3, ![1, 512, 1024]⟩
abbrev S128 : Shape := ⟨1, ![128]⟩
abbrev S128x1 : Shape := ⟨2, ![128, 1]⟩
abbrev S128x512 : Shape := ⟨2, ![128, 512]⟩

abbrev nBuf : Space → Nat
  | .hbm => 31
  | .vmem => 21
  | .smem => 0
  | _ => 0

abbrev bufTy : (tb : Table) → Fin (tcTables nBuf tb) → BufTy
  | .hbm, ⟨0, _⟩ => ⟨S128x4096, .f32⟩
  | .hbm, ⟨1, _⟩ => ⟨S128x2048, .i1⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512, .f32⟩
  | .hbm, ⟨12, _⟩ => ⟨S32x512, .f32⟩
  | .hbm, ⟨13, _⟩ => ⟨S32, .f32⟩
  | .hbm, ⟨14, _⟩ => ⟨S1024x1024, .f32⟩
  | .hbm, ⟨15, _⟩ => ⟨S1024, .f32⟩
  | .hbm, ⟨16, _⟩ => ⟨S2048x1024, .f32⟩
  | .hbm, ⟨17, _⟩ => ⟨S2048, .f32⟩
  | .hbm, ⟨18, _⟩ => ⟨S128x2048, .i8⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x512, .f32⟩
  | .hbm, ⟨26, _⟩ => ⟨S1x32, .f32⟩
  | .hbm, ⟨27, _⟩ => ⟨S1x1024, .f32⟩
  | .hbm, ⟨28, _⟩ => ⟨S1x2048, .f32⟩
  | .hbm, ⟨29, _⟩ => ⟨S128x2048, .f32⟩
  | .hbm, ⟨30, _⟩ => ⟨S128x32, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x512, .f32⟩
  | .local _ .vmem, ⟨7, _⟩ => ⟨S32x512, .f32⟩
  | .local _ .vmem, ⟨8, _⟩ => ⟨S1x32, .f32⟩
  | .local _ .vmem, ⟨9, _⟩ => ⟨S1x1024, .f32⟩
  | .local _ .vmem, ⟨10, _⟩ => ⟨S1x2048, .f32⟩
  | .local _ .vmem, ⟨11, _⟩ => ⟨S128x32, .f32⟩
  | .local _ .vmem, ⟨12, _⟩ => ⟨S128x4096, .f32⟩
  | .local _ .vmem, ⟨13, _⟩ => ⟨S128x2048, .i8⟩
  | .local _ .vmem, ⟨14, _⟩ => ⟨S8x128x4096, .f32⟩
  | .local _ .vmem, ⟨15, _⟩ => ⟨S2x512x1024, .f32⟩
  | .local _ .vmem, ⟨16, _⟩ => ⟨S512x1024, .f32⟩
  | .local _ .vmem, ⟨17, _⟩ => ⟨S2x512x1024, .f32⟩
  | .local _ .vmem, ⟨18, _⟩ => ⟨S4x512x1024, .f32⟩
  | .local _ .vmem, ⟨19, _⟩ => ⟨S128x1024, .f32⟩
  | .local _ .vmem, ⟨20, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v0_1 : Ref sig .tc := ⟨.hbm, 29, rfl⟩
abbrev main_v0_0 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S128x4096 : Shape := ⟨2, ![128, 4096]⟩
abbrev S128x2048 : Shape := ⟨2, ![128, 2048]⟩
abbrev S1024x4096 : Shape := ⟨2, ![1024, 4096]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S32x512 : Shape := ⟨2, ![32, 512]⟩
abbrev S32 : Shape := ⟨1, ![32]⟩
abbrev S2048x1024 : Shape := ⟨2, ![2048, 1024]⟩
abbrev S2048 : Shape := ⟨1, ![2048]⟩
abbrev S4096x1024 : Shape := ⟨2, ![4096, 1024]⟩
abbrev S128x1024 : Shape := ⟨2, ![128, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1x512 : Shape := ⟨2, ![1, 512]⟩
abbrev S512x32 : Shape := ⟨2, ![512, 32]⟩
abbrev S128x32 : Shape := ⟨2, ![128, 32]⟩
abbrev S1x32 : Shape := ⟨2, ![1, 32]⟩
abbrev S1024x2048 : Shape := ⟨2, ![1024, 2048]⟩
abbrev S1x2048 : Shape := ⟨2, ![1, 2048]⟩

abbrev nBuf : Space → Nat
  | .hbm => 166
  | .vmem => 0
  | .smem => 0
  | _ => 0

abbrev hbmTy0_0 (i : Nat) : BufTy := match i % 128 with
  | 0 => ⟨S128x4096, .f32⟩
  | 1 => ⟨S128x2048, .i1⟩
  | 2 => ⟨S1024x4096, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024, .f32⟩
  | 9 => ⟨S1024, .f32⟩
  | 10 => ⟨S512x1024, .f32⟩
  | 11 => ⟨S512, .f32⟩
  | 12 => ⟨S32x512, .f32⟩
  | 13 => ⟨S32, .f32⟩
  | 14 => ⟨S1024x1024, .f32⟩
  | 15 => ⟨S1024, .f32⟩
  | 16 => ⟨S2048x1024, .f32⟩
  | 17 => ⟨S2048, .f32⟩
  | 18 => ⟨S4096x1024, .f32⟩
  | 19 => ⟨S128x1024, .f32⟩
  | 20 => ⟨S1x1024, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S_, .f32⟩
  | 27 => ⟨S128, .f32⟩
  | 28 => ⟨S128x1, .f32⟩
  | 29 => ⟨S_, .f32⟩
  | 30 => ⟨S128x1, .f32⟩
  | 31 => ⟨S128x1, .f32⟩
  | 32 => ⟨S_, .i32⟩
  | 33 => ⟨S_, .f32⟩
  | 34 => ⟨S128, .f32⟩
  | 35 => ⟨S128x1, .f32⟩
  | 36 => ⟨S_, .f32⟩
  | 37 => ⟨S128x1, .f32⟩
  | 38 => ⟨S128x1, .f32⟩
  | 39 => ⟨S128x1024, .f32⟩
  | 40 => ⟨S128x1024, .f32⟩
  | 41 => ⟨S128x1024, .f32⟩
  | 42 => ⟨S_, .f32⟩
  | 43 => ⟨S_, .f32⟩
  | 44 => ⟨S_, .f32⟩
  | 45 => ⟨S_, .f32⟩
  | 46 => ⟨S128, .f32⟩
  | 47 => ⟨S128x1, .f32⟩
  | 48 => ⟨S128x1, .f32⟩
  | 49 => ⟨S128x1, .f32⟩
  | 50 => ⟨S_, .f32⟩
  | 51 => ⟨S_, .i1⟩
  | 52 => ⟨S_, .f32⟩
  | 53 => ⟨S_, .f32⟩
  | 54 => ⟨S128x1, .f32⟩
  | 55 => ⟨S128x1, .f32⟩
  | 56 => ⟨S128x1024, .f32⟩
  | 57 => ⟨S128x1024, .f32⟩
  | 58 => ⟨S_, .f32⟩
  | 59 => ⟨S128x1, .f32⟩
  | 60 => ⟨S128x1, .f32⟩
  | 61 => ⟨S128x1, .f32⟩
  | 62 => ⟨S128x1024, .f32⟩
  | 63 => ⟨S128x1024, .f32⟩
  | 64 => ⟨S1x1024, .f32⟩
  | 65 => ⟨S128x1024, .f32⟩
  | 66 => ⟨S128x1024, .f32⟩
  | 67 => ⟨S1x1024, .f32⟩
  | 68 => ⟨S128x1024, .f32⟩
  | 69 => ⟨S128x1024, .f32⟩
  | 70 => ⟨S1024x1024, .f32⟩
  | 71 => ⟨S128x1024, .f32⟩
  | 72 => ⟨S1x1024, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S_, .f32⟩
  | 79 => ⟨S128, .f32⟩
  | 80 => ⟨S128x1, .f32⟩
  | 81 => ⟨S_, .f32⟩
  | 82 => ⟨S128x1, .f32⟩
  | 83 => ⟨S128x1, .f32⟩
  | 84 => ⟨S_, .i32⟩
  | 85 => ⟨S_, .f32⟩
  | 86 => ⟨S128, .f32⟩
  | 87 => ⟨S128x1, .f32⟩
  | 88 => ⟨S_, .f32⟩
  | 89 => ⟨S128x1, .f32⟩
  | 90 => ⟨S128x1, .f32⟩
  | 91 => ⟨S128x1024, .f32⟩
  | 92 => ⟨S128x1024, .f32⟩
  | 93 => ⟨S128x1024, .f32⟩
  | 94 => ⟨S_, .f32⟩
  | 95 => ⟨S_, .f32⟩
  | 96 => ⟨S_, .f32⟩
  | 97 => ⟨S_, .f32⟩
  | 98 => ⟨S128, .f32⟩
  | 99 => ⟨S128x1, .f32⟩
  | 100 => ⟨S128x1, .f32⟩
  | 101 => ⟨S128x1, .f32⟩
  | 102 => ⟨S_, .f32⟩
  | 103 => ⟨S_, .i1⟩
  | 104 => ⟨S_, .f32⟩
  | 105 => ⟨S_, .f32⟩
  | 106 => ⟨S128x1, .f32⟩
  | 107 => ⟨S128x1, .f32⟩
  | 108 => ⟨S128x1024, .f32⟩
  | 109 => ⟨S128x1024, .f32⟩
  | 110 => ⟨S_, .f32⟩
  | 111 => ⟨S128x1, .f32⟩
  | 112 => ⟨S128x1, .f32⟩
  | 113 => ⟨S128x1, .f32⟩
  | 114 => ⟨S128x1024, .f32⟩
  | 115 => ⟨S128x1024, .f32⟩
  | 116 => ⟨S1x1024, .f32⟩
  | 117 => ⟨S128x1024, .f32⟩
  | 118 => ⟨S128x1024, .f32⟩
  | 119 => ⟨S1x1024, .f32⟩
  | 120 => ⟨S128x1024, .f32⟩
  | 121 => ⟨S128x1024, .f32⟩
  | 122 => ⟨S1024x512, .f32⟩
  | 123 => ⟨S128x512, .f32⟩
  | 124 => ⟨S1x512, .f32⟩
  | 125 => ⟨S128x512, .f32⟩
  | 126 => ⟨S128x512, .f32⟩
  | 127 => ⟨S_, .f32⟩
  | _ => ⟨S128x4096, .f32⟩

abbrev hbmTy0_1 (i : Nat) : BufTy := match i % 128 with
  | 0 => ⟨S128x512, .f32⟩
  | 1 => ⟨S128x512, .f32⟩
  | 2 => ⟨S512x32, .f32⟩
  | 3 => ⟨S128x32, .f32⟩
  | 4 => ⟨S1x32, .f32⟩
  | 5 => ⟨S128x32, .f32⟩
  | 6 => ⟨S128x32, .f32⟩
  | 7 => ⟨S128x2048, .i1⟩
  | 8 => ⟨S128x2048, .i32⟩
  | 9 => ⟨S_, .i32⟩
  | 10 => ⟨S128, .i32⟩
  | 11 => ⟨S32, .i32⟩
  | 12 => ⟨S1x32, .i32⟩
  | 13 => ⟨S128x1, .i32⟩
  | 14 => ⟨S128x32, .i32⟩
  | 15 => ⟨S128x32, .i32⟩
  | 16 => ⟨S128x32, .i1⟩
  | 17 => ⟨S_, .f32⟩
  | 18 => ⟨S_, .f32⟩
  | 19 => ⟨S128x32, .f32⟩
  | 20 => ⟨S128x32, .f32⟩
  | 21 => ⟨S1024x1024, .f32⟩
  | 22 => ⟨S128x1024, .f32⟩
  | 23 => ⟨S1x1024, .f32⟩
  | 24 => ⟨S128x1024, .f32⟩
  | 25 => ⟨S128x1024, .f32⟩
  | 26 => ⟨S_, .f32⟩
  | 27 => ⟨S128x1024, .f32⟩
  | 28 => ⟨S128x1024, .f32⟩
  | 29 => ⟨S1024x2048, .f32⟩
  | 30 => ⟨S128x2048, .f32⟩
  | 31 => ⟨S1x2048, .f32⟩
  | 32 => ⟨S128x2048, .f32⟩
  | 33 => ⟨S128x2048, .f32⟩
  | 34 => ⟨S_, .f32⟩
  | 35 => ⟨S_, .f32⟩
  | 36 => ⟨S128x2048, .f32⟩
  | 37 => ⟨S128x2048, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_cst_1 : Ref sig .tc := ⟨.hbm, 43, rfl⟩
abbrev main_call1_v8 : Ref sig .tc := ⟨.hbm, 44, rfl⟩
abbrev main_call1_cst_2 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_cst_3 : Ref sig .tc := ⟨.hbm, 50, rfl⟩
abbrev main_call1_v13 : Ref sig .tc := ⟨.hbm, 51, rfl⟩
abbrev main_call1_cst_4 : Ref sig .tc := ⟨.hbm, 52, rfl⟩
abbrev main_call1_call0_v0 : Ref sig .tc := ⟨.hbm, 53, rfl⟩
abbrev main_call1_call0_v1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_1 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_call2_cst : Ref sig .tc := ⟨.hbm, 75, rfl⟩
abbrev main_call2_v0 : Ref sig .tc := ⟨.hbm, 76, rfl⟩
abbrev main_v29 : Ref sig .tc := ⟨.hbm, 77, rfl⟩
abbrev main_cst_2 : Ref sig .tc := ⟨.hbm, 78, rfl⟩
abbrev main_v30 : Ref sig .tc := ⟨.hbm, 79, rfl⟩
abbrev main_v31 : Ref sig .tc := ⟨.hbm, 80, rfl⟩
abbrev main_cst_3 : Ref sig .tc := ⟨.hbm, 81, rfl⟩
abbrev main_v32 : Ref sig .tc := ⟨.hbm, 82, rfl⟩
abbrev main_v33 : Ref sig .tc := ⟨.hbm, 83, rfl⟩
abbrev main_c_4 : Ref sig .tc := ⟨.hbm, 84, rfl⟩
abbrev main_call3_cst : Ref sig .tc := ⟨.hbm, 85, rfl⟩
abbrev main_call3_v0 : Ref sig .tc := ⟨.hbm, 86, rfl⟩
abbrev main_call3_v1 : Ref sig .tc := ⟨.hbm, 87, rfl⟩
abbrev main_call3_cst_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_cst_1 : Ref sig .tc := ⟨.hbm, 95, rfl⟩
abbrev main_call3_v8 : Ref sig .tc := ⟨.hbm, 96, rfl⟩
abbrev main_call3_cst_2 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_cst_3 : Ref sig .tc := ⟨.hbm, 102, rfl⟩
abbrev main_call3_v13 : Ref sig .tc := ⟨.hbm, 103, rfl⟩
abbrev main_call3_cst_4 : Ref sig .tc := ⟨.hbm, 104, rfl⟩
abbrev main_call3_call0_v0 : Ref sig .tc := ⟨.hbm, 105, rfl⟩
abbrev main_call3_call0_v1 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_cst_5 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_call4_cst : Ref sig .tc := ⟨.hbm, 127, rfl⟩
abbrev main_call4_v0 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_c_6 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_cst_7 : Ref sig .tc := ⟨.hbm, 145, rfl⟩
abbrev main_call5_v0 : Ref sig .tc := ⟨.hbm, 146, rfl⟩
abbrev main_call5_v1 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_call6_cst : Ref sig .tc := ⟨.hbm, 154, rfl⟩
abbrev main_call6_v0 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_8 : Ref sig .tc := ⟨.hbm, 162, rfl⟩
abbrev main_call7_v0 : Ref sig .tc := ⟨.hbm, 163, rfl⟩
abbrev main_call7_v1 : Ref sig .tc := ⟨.hbm, 164, rfl⟩
abbrev main_v80 : Ref sig .tc := ⟨.hbm, 165, rfl⟩

abbrev nD : Nat := 1
abbrev τ : Topo := Topo.v7x

variable {F : FTy → Type} [FloatOps F]
-- ==== Proof.KI.Values.lean ====
/-
  What the kernel writes, as functions of its operands.

  The operands are gathered in one record, each as a plain array. From them: the eight column blocks of the first
  product, the features after the first and the second normalisation, and the two results. The results are stated over
  the payloads of the kernel's skeleton; the copies, the windows and the scratch buffers do not occur.
-/
module

public import proofs.«01_k».proof.Proof.Gen.KernelIdeal.Skeleton
public import Idealize.ShloMosaic.Lib.Pipeline.FrameBody
public import Idealize.ShloMosaic.Lib.Pipeline.Value

@[expose] public section

noncomputable section

namespace Cert.KernelIdeal.Hand

open Cert.KernelIdeal Cert.KernelIdeal.Gen
open Idealize.ShloMosaic Idealize.SL.Sem

variable {F : FTy → Type} [FloatOps F]

/-- The operands of the kernel, as arrays. -/
structure Operands (F : FTy → Type) where
  x : Vec F S128x4096 .f32
  msk : Vec F S128x2048 .i8
  w1 : Vec F S1024x4096 .f32
  w2 : Vec F S1024x1024 .f32
  wp1 : Vec F S512x1024 .f32
  wq1 : Vec F S1024x1024 .f32
  wq2 : Vec F S2048x1024 .f32
  b1 : Vec F S1x1024 .f32
  g1 : Vec F S1x1024 .f32
  be1 : Vec F S1x1024 .f32
  b2 : Vec F S1x1024 .f32
  g2 : Vec F S1x1024 .f32
  be2 : Vec F S1x1024 .f32
  bp1 : Vec F S1x512 .f32
  wp2 : Vec F S32x512 .f32
  bp2 : Vec F S1x32 .f32
  bq1 : Vec F S1x1024 .f32
  bq2 : Vec F S1x2048 .f32

variable (o : Operands F)

/-- Rows `[p, p + 128)` of the first weight, as the slab the kernel loads. -/
def slab1 (w : Vec F S1024x4096 .f32) (off : Fin 2 → ℕ) (inb : ∀ a, off a + S128x4096.size a ≤ S1024x4096.size a) : Vec F S1x128x4096 .f32 :=
  shapeCast S1x128x4096 (View.ld w (Rect.unit (s := S1024x4096) off S128x4096.size inb)) (show S128x4096.ShapeCasts S1x128x4096 by decide)

/-- Rows `[p, p + 512)` of a square weight, as the slab the kernel loads. -/
def slab2 (w : Vec F S1024x1024 .f32) (off : Fin 2 → ℕ) (inb : ∀ a, off a + S512x1024.size a ≤ S1024x1024.size a) :
    Vec F S1x512x1024 .f32 :=
  shapeCast S1x512x1024 (View.ld w (Rect.unit (s := S1024x1024) off S512x1024.size inb)) (show S512x1024.ShapeCasts S1x512x1024 by decide)

/-- Rows `[p, p + 512)` of the last weight, as the slab the kernel loads. -/
def slab4 (w : Vec F S2048x1024 .f32) (off : Fin 2 → ℕ) (inb : ∀ a, off a + S512x1024.size a ≤ S2048x1024.size a) : Vec F S1x512x1024 .f32 :=
  shapeCast S1x512x1024 (View.ld w (Rect.unit (s := S2048x1024) off S512x1024.size inb)) (show S512x1024.ShapeCasts S1x512x1024 by decide)

/-- The eight column blocks of the first product, the last one first. -/
def hPieces (x : Vec F S128x4096 .f32) (w1 : Vec F S1024x4096 .f32) : List (View.Piece (Elt F) S128x1024 .f32) :=
  [⟨Rect.unit (s := S128x1024) ![0, 896] S128x128.size inb_S128x1024_S128x128_0_896, k0_pay10 x (slab1 w1 ![896, 0] inb_S1024x4096_S128x4096_896_0)⟩,
   ⟨Rect.unit (s := S128x1024) ![0, 768] S128x128.size inb_S128x1024_S128x128_0_768, k0_pay9 x (slab1 w1 ![768, 0] inb_S1024x4096_S128x4096_768_0)⟩,
   ⟨Rect.unit (s := S128x1024) ![0, 640] S128x128.size inb_S128x1024_S128x128_0_640, k0_pay8 x (slab1 w1 ![640, 0] inb_S1024x4096_S128x4096_640_0)⟩,
   ⟨Rect.unit (s := S128x1024) ![0, 512] S128x128.size inb_S128x1024_S128x128_0_512, k0_pay7 x (slab1 w1 ![512, 0] inb_S1024x4096_S128x4096_512_0)⟩,
   ⟨Rect.unit (s := S128x1024) ![0, 384] S128x128.size inb_S128x1024_S128x128_0_384, k0_pay6 x (slab1 w1 ![384, 0] inb_S1024x4096_S128x4096_384_0)⟩,
   ⟨Rect.unit (s := S128x1024) ![0, 256] S128x128.size inb_S128x1024_S128x128_0_256, k0_pay5 (k0_pay3 x) (k0_pay4 (slab1 w1 ![256, 0] inb_S1024x4096_S128x4096_256_0))⟩,
   ⟨Rect.unit (s := S128x1024) ![0, 128] S128x128.size inb_S128x1024_S128x128_0_128, k0_pay2 x (slab1 w1 ![128, 0] inb_S1024x4096_S128x4096_128_0)⟩,
   ⟨Rect.unit (s := S128x1024) ![0, 0] S128x128.size inb_S128x1024_S128x128_0_0, k0_pay1 x (slab1 w1 ![0, 0] inb_S1024x4096_S128x4096_0_0)⟩]

/-- The first product, whole. -/
def h (x : Vec F S128x4096 .f32) (w1 : Vec F S1024x4096 .f32) : Vec F S128x1024 .f32 := View.canon (hPieces x w1)

/-- The features after the first layer. -/
def feat1 : FVec F S128x1024 .f32 := k0_pay11 (h o.x o.w1) o.b1 o.g1 o.be1

/-- The features after the second layer. -/
def feat : FVec F S128x1024 .f32 :=
  k0_pay13 (k0_pay12 (feat1 o) (slab2 o.w2 ![0, 0] inb_S1024x1024_S512x1024_0_0)
    (slab2 o.w2 ![512, 0] inb_S1024x1024_S512x1024_512_0)) o.b2 o.g2 o.be2

/-- The mask as numbers. -/
def maskf : FVec F S128x2048 .f32 := k0_pay14 o.msk

/-- The hidden layer of the position head. -/
def hid : FVec F S128x1024 .f32 :=
  k0_pay16 (feat o) (k0_pay15 (feat o) (slab2 o.wq1 ![0, 0] inb_S1024x1024_S512x1024_0_0))
    (slab2 o.wq1 ![512, 0] inb_S1024x1024_S512x1024_512_0) o.bq1

/-- The first result. -/
def par : FVec F S128x32 .f32 := k0_pay19 (k0_pay17 (feat o) o.wp1 o.bp1 o.wp2 o.bp2) (k0_pay18 (maskf o))

/-- A stretch of the last bias. -/
def biasq (off : Fin 2 → ℕ) (inb : ∀ a, off a + S1x512.size a ≤ S1x2048.size a) : Vec F S1x512 .f32 :=
  View.ld o.bq2 (Rect.unit (s := S1x2048) off S1x512.size inb)

/-- Columns `[0, 512)` of the second result. -/
def pos0 : FVec F S128x512 .f32 :=
  k0_pay20 (maskf o) (hid o) (slab4 o.wq2 ![0, 0] inb_S2048x1024_S512x1024_0_0) (biasq o ![0, 0] inb_S1x2048_S1x512_0_0)
/-- Columns `[512, 1024)` of the second result. -/
def pos1 : FVec F S128x512 .f32 :=
  k0_pay21 (maskf o) (hid o) (slab4 o.wq2 ![512, 0] inb_S2048x1024_S512x1024_512_0) (biasq o ![0, 512] inb_S1x2048_S1x512_0_512)
/-- Columns `[1024, 1536)` of the second result. -/
def pos2 : FVec F S128x512 .f32 :=
  k0_pay22 (maskf o) (hid o) (slab4 o.wq2 ![1024, 0] inb_S2048x1024_S512x1024_1024_0) (biasq o ![0, 1024] inb_S1x2048_S1x512_0_1024)
/-- Columns `[1536, 2048)` of the second result. -/
def pos3 : FVec F S128x512 .f32 :=
  k0_pay24 (maskf o) (k0_pay23 (hid o) (slab4 o.wq2 ![1536, 0] inb_S2048x1024_S512x1024_1536_0))
    (biasq o ![0, 1536] inb_S1x2048_S1x512_0_1536)

/-- The four column blocks of the second result, the last one first. -/
def posPieces : List (View.Piece (Elt F) S128x2048 .f32) :=
  [⟨Rect.unit (s := S128x2048) ![0, 1536] S128x512.size inb_S128x2048_S128x512_0_1536, pos3 o⟩,
   ⟨Rect.unit (s := S128x2048) ![0, 1024] S128x512.size inb_S128x2048_S128x512_0_1024, pos2 o⟩,
   ⟨Rect.unit (s := S128x2048) ![0, 512] S128x512.size inb_S128x2048_S128x512_0_512, pos1 o⟩,
   ⟨Rect.unit (s := S128x2048) ![0, 0] S128x512.size inb_S128x2048_S128x512_0_0, pos0 o⟩]

/-- The second result, whole. -/
def pos : Vec F S128x2048 .f32 := View.canon (posPieces o)

end Cert.KernelIdeal.Hand

end
-- ==== Proof.KI.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Ring
public import Idealize.ShloMosaic.Lib.Tactic
public import Idealize.ShloMosaic.Lib.WordCmp

/-! # The body, run

The kernel has no grid: its body runs once. The run follows it from the first copy to the last wait, and keeps what
each buffer holds. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
/-- The scratch buffer for the input. -/
abbrev sc0 : Memref sig .tc .vmem S128x4096 .f32 := Memref.whole cc0_scratch0
/-- The scratch buffer for the mask. -/
abbrev sc1 : Memref sig .tc .vmem S128x2048 .i8 := Memref.whole cc0_scratch1
/-- The scratch buffer for the first weight's slabs. -/
abbrev sc2 : Memref sig .tc .vmem S8x128x4096 .f32 := Memref.whole cc0_scratch2
/-- The scratch buffer for the second weight's slabs. -/
abbrev sc3 : Memref sig .tc .vmem S2x512x1024 .f32 := Memref.whole cc0_scratch3
/-- The scratch buffer for the first head's weight. -/
abbrev sc4 : Memref sig .tc .vmem S512x1024 .f32 := Memref.whole cc0_scratch4
/-- The scratch buffer for the second head's first weight's slabs. -/
abbrev sc5 : Memref sig .tc .vmem S2x512x1024 .f32 := Memref.whole cc0_scratch5
/-- The scratch buffer for the second head's second weight's slabs. -/
abbrev sc6 : Memref sig .tc .vmem S4x512x1024 .f32 := Memref.whole cc0_scratch6
/-- The scratch buffer for the features. -/
abbrev sc7 : Memref sig .tc .vmem S128x1024 .f32 := Memref.whole cc0_scratch7
/-- The scratch buffer for the second result. -/
abbrev sc8 : Memref sig .tc .vmem S128x2048 .f32 := Memref.whole cc0_scratch8
/-- The array of the input. -/
abbrev hb0 : Memref sig .tc .hbm S128x4096 .f32 := Memref.whole main_arg0
/-- The array of the mask. -/
abbrev hb1 : Memref sig .tc .hbm S128x2048 .i8 := Memref.whole main_call0_v0
/-- The array of the first weight. -/
abbrev hb2 : Memref sig .tc .hbm S1024x4096 .f32 := Memref.whole main_arg2
/-- The array of the second weight. -/
abbrev hb3 : Memref sig .tc .hbm S1024x1024 .f32 := Memref.whole main_arg6
/-- The array of the first head's first weight. -/
abbrev hb4 : Memref sig .tc .hbm S512x1024 .f32 := Memref.whole main_arg10
/-- The array of the second head's first weight. -/
abbrev hb5 : Memref sig .tc .hbm S1024x1024 .f32 := Memref.whole main_arg14
/-- The array of the second head's second weight. -/
abbrev hb6 : Memref sig .tc .hbm S2048x1024 .f32 := Memref.whole main_arg16
/-- The array of the second result. -/
abbrev hb7 : Memref sig .tc .hbm S128x2048 .f32 := Memref.whole main_v0_1

/-- The contents of the buffer a memref views. -/
abbrev CBuf (c : Dev nD) {sp : Space} {S : Shape} {e : EltTy} (M : Memref sig .tc sp S e) : Type := Buf (Elt F) (M.view.loc (c : Thread nD τ))
/-- A buffer held whole. -/
abbrev ptW (c : Dev nD) {sp : Space} {S : Shape} {e : EltTy} (M : Memref sig .tc sp S e) (f : CBuf (F := F) c M) : sProp 𝕄 :=
  M.view.loc (c : Thread nD τ) ↦{fullShare} f
/-- The elements a memref views. -/
abbrev ptV (c : Dev nD) {sp : Space} {S : Shape} {e : EltTy} (M : Memref sig .tc sp S e) (f : CBuf (F := F) c M) : sProp 𝕄 :=
  M.view.loc (c : Thread nD τ) ↦[M.view.set]{fullShare} f
/-- A buffer's elements under one rectangle. -/
abbrev ptR (c : Dev nD) {sp : Space} {S : Shape} {e : EltTy} (M : Memref sig .tc sp S e) (R : Rect S) (f : CBuf (F := F) c M) : sProp 𝕄 :=
  M.view.loc (c : Thread nD τ) ↦[M.view.setOn R.set]{fullShare} f

set_option maxHeartbeats 0 in
set_option maxRecDepth 65536 in
/-- The body, run once from whole buffers with every semaphore at zero: the pieces each buffer ends with, and the proof that
the run ends there with the semaphores at zero again. -/
noncomputable def run0 (c : Dev nD) (arg0 : Memref sig .tc .vmem S1x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1x1024 .f32) (harg9 : arg9.IsWhole) (arg10 : Memref sig .tc .vmem S1x2048 .f32) (harg10 : arg10.IsWhole) (arg19 : Memref sig .tc .vmem S128x32 .f32) (harg19 : arg19.IsWhole)
    (f0 : CBuf (F := F) c arg0) (f1 : CBuf (F := F) c arg1) (f2 : CBuf (F := F) c arg2) (f3 : CBuf (F := F) c arg3) (f4 : CBuf (F := F) c arg4) (f5 : CBuf (F := F) c arg5) (f6 : CBuf (F := F) c arg6) (f7 : CBuf (F := F) c arg7) (f8 : CBuf (F := F) c arg8) (f9 : CBuf (F := F) c arg9) (f10 : CBuf (F := F) c arg10) (f19 : CBuf (F := F) c arg19)
    (s0 : CBuf (F := F) c sc0) (s1 : CBuf (F := F) c sc1) (s2_0 : CBuf (F := F) c sc2) (s2_1 : CBuf (F := F) c sc2) (s2_2 : CBuf (F := F) c sc2) (s2_3 : CBuf (F := F) c sc2) (s2_4 : CBuf (F := F) c sc2) (s2_5 : CBuf (F := F) c sc2) (s2_6 : CBuf (F := F) c sc2) (s2_7 : CBuf (F := F) c sc2) (s3_0 : CBuf (F := F) c sc3) (s3_1 : CBuf (F := F) c sc3) (s4 : CBuf (F := F) c sc4) (s5_0 : CBuf (F := F) c sc5) (s5_1 : CBuf (F := F) c sc5) (s6_0 : CBuf (F := F) c sc6) (s6_1 : CBuf (F := F) c sc6) (s6_2 : CBuf (F := F) c sc6) (s6_3 : CBuf (F := F) c sc6) (s7 : CBuf (F := F) c sc7) (s8_0 : CBuf (F := F) c sc8) (s8_1 : CBuf (F := F) c sc8) (s8_2 : CBuf (F := F) c sc8) (s8_3 : CBuf (F := F) c sc8) (a0 : CBuf (F := F) c hb0) (a1 : CBuf (F := F) c hb1) (a2 : CBuf (F := F) c hb2) (a3 : CBuf (F := F) c hb3) (a4 : CBuf (F := F) c hb4) (a5 : CBuf (F := F) c hb5) (a6 : CBuf (F := F) c hb6) (a7_0 : CBuf (F := F) c hb7) (a7_1 : CBuf (F := F) c hb7) (a7_2 : CBuf (F := F) c hb7) (a7_3 : CBuf (F := F) c hb7) :
    { LG : List (View.Piece (Elt F) S128x32 .f32) × List (View.Piece (Elt F) S128x2048 .f32) × List (View.Piece (Elt F) S128x2048 .f32) × List (View.Piece (Elt F) S128x2048 .f32) × List (View.Piece (Elt F) S128x2048 .f32) //
      ∀ (W : Waits sig Unit) (K : PUnit → sProp 𝕄),
        iprop(ptV c arg0 f0
            ∗ ptV c arg1 f1
            ∗ ptV c arg2 f2
            ∗ ptV c arg3 f3
            ∗ ptV c arg4 f4
            ∗ ptV c arg5 f5
            ∗ ptV c arg6 f6
            ∗ ptV c arg7 f7
            ∗ ptV c arg8 f8
            ∗ ptV c arg9 f9
            ∗ ptV c arg10 f10
            ∗ ptV c arg19 f19
            ∗ ptW c sc0 s0
            ∗ ptW c sc1 s1
            ∗ ptR c sc2 (Rect.unit (s := S8x128x4096) ![0, 0, 0] S1x128x4096.size inb_S8x128x4096_S1x128x4096_0_0_0) s2_0
            ∗ ptR c sc2 (Rect.unit (s := S8x128x4096) ![1, 0, 0] S1x128x4096.size inb_S8x128x4096_S1x128x4096_1_0_0) s2_1
            ∗ ptR c sc2 (Rect.unit (s := S8x128x4096) ![2, 0, 0] S1x128x4096.size inb_S8x128x4096_S1x128x4096_2_0_0) s2_2
            ∗ ptR c sc2 (Rect.unit (s := S8x128x4096) ![3, 0, 0] S1x128x4096.size inb_S8x128x4096_S1x128x4096_3_0_0) s2_3
            ∗ ptR c sc2 (Rect.unit (s := S8x128x4096) ![4, 0, 0] S1x128x4096.size inb_S8x128x4096_S1x128x4096_4_0_0) s2_4
            ∗ ptR c sc2 (Rect.unit (s := S8x128x4096) ![5, 0, 0] S1x128x4096.size inb_S8x128x4096_S1x128x4096_5_0_0) s2_5
            ∗ ptR c sc2 (Rect.unit (s := S8x128x4096) ![6, 0, 0] S1x128x4096.size inb_S8x128x4096_S1x128x4096_6_0_0) s2_6
            ∗ ptR c sc2 (Rect.unit (s := S8x128x4096) ![7, 0, 0] S1x128x4096.size inb_S8x128x4096_S1x128x4096_7_0_0) s2_7
            ∗ ptR c sc3 (Rect.unit (s := S2x512x1024) ![0, 0, 0] S1x512x1024.size inb_S2x512x1024_S1x512x1024_0_0_0) s3_0
            ∗ ptR c sc3 (Rect.unit (s := S2x512x1024) ![1, 0, 0] S1x512x1024.size inb_S2x512x1024_S1x512x1024_1_0_0) s3_1
            ∗ ptW c sc4 s4
            ∗ ptR c sc5 (Rect.unit (s := S2x512x1024) ![0, 0, 0] S1x512x1024.size inb_S2x512x1024_S1x512x1024_0_0_0) s5_0
            ∗ ptR c sc5 (Rect.unit (s := S2x512x1024) ![1, 0, 0] S1x512x1024.size inb_S2x512x1024_S1x512x1024_1_0_0) s5_1
            ∗ ptR c sc6 (Rect.unit (s := S4x512x1024) ![0, 0, 0] S1x512x1024.size inb_S4x512x1024_S1x512x1024_0_0_0) s6_0
            ∗ ptR c sc6 (Rect.unit (s := S4x512x1024) ![1, 0, 0] S1x512x1024.size inb_S4x512x1024_S1x512x1024_1_0_0) s6_1
            ∗ ptR c sc6 (Rect.unit (s := S4x512x1024) ![2, 0, 0] S1x512x1024.size inb_S4x512x1024_S1x512x1024_2_0_0) s6_2
            ∗ ptR c sc6 (Rect.unit (s := S4x512x1024) ![3, 0, 0] S1x512x1024.size inb_S4x512x1024_S1x512x1024_3_0_0) s6_3
            ∗ ptW c sc7 s7
            ∗ ptR c sc8 (Rect.unit (s := S128x2048) ![0, 0] S128x512.size inb_S128x2048_S128x512_0_0) s8_0
            ∗ ptR c sc8 (Rect.unit (s := S128x2048) ![0, 512] S128x512.size inb_S128x2048_S128x512_0_512) s8_1
            ∗ ptR c sc8 (Rect.unit (s := S128x2048) ![0, 1024] S128x512.size inb_S128x2048_S128x512_0_1024) s8_2
            ∗ ptR c sc8 (Rect.unit (s := S128x2048) ![0, 1536] S128x512.size inb_S128x2048_S128x512_0_1536) s8_3
            ∗ ptW c hb0 a0
            ∗ ptW c hb1 a1
            ∗ ptW c hb2 a2
            ∗ ptW c hb3 a3
            ∗ ptW c hb4 a4
            ∗ ptW c hb5 a5
            ∗ ptW c hb6 a6
            ∗ ptR c hb7 (Rect.unit (s := S128x2048) ![0, 0] S128x512.size inb_S128x2048_S128x512_0_0) a7_0
            ∗ ptR c hb7 (Rect.unit (s := S128x2048) ![0, 512] S128x512.size inb_S128x2048_S128x512_0_512) a7_1
            ∗ ptR c hb7 (Rect.unit (s := S128x2048) ![0, 1024] S128x512.size inb_S128x2048_S128x512_0_1024) a7_2
            ∗ ptR c hb7 (Rect.unit (s := S128x2048) ![0, 1536] S128x512.size inb_S128x2048_S128x512_0_1536) a7_3
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ semVal ((c : Thread nD τ), SemLoc.dma 19) 0
            ∗ semVal ((c : Thread nD τ), SemLoc.dma 20) 0
            ∗ semVal ((c : Thread nD τ), SemLoc.dma 21) 0
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ semVal ((c : Thread nD τ), SemLoc.dma 28) 0
            ∗ semVal ((c : Thread nD τ), SemLoc.dma 29) 0
            ∗ semVal ((c : Thread nD τ), SemLoc.dma 30) 0
            ∗ semVal ((c : Thread nD τ), SemLoc.dma 32) 0
            ∗ semVal ((c : Thread nD τ), SemLoc.dma 33) 0
            ∗ semVal ((c : Thread nD τ), SemLoc.dma 34) 0
            ∗ semVal ((c : Thread nD τ), SemLoc.dma 35) 0
            ∗ owes (c : Thread nD τ) 0 W
            ∗ (iprop(ptV c arg0 f0
            ∗ ptV c arg1 f1
            ∗ ptV c arg2 f2
            ∗ ptV c arg3 f3
            ∗ ptV c arg4 f4
            ∗ ptV c arg5 f5
            ∗ ptV c arg6 f6
            ∗ ptV c arg7 f7
            ∗ ptV c arg8 f8
            ∗ ptV c arg9 f9
            ∗ ptV c arg10 f10
            ∗ ptV c arg19 (arg19.view.writes (Elt F) f19 LG.1)
            ∗ (∃ f, ptW c sc0 f)
            ∗ (∃ f, ptW c sc1 f)
            ∗ (∃ f, ptR c sc2 (Rect.unit (s := S8x128x4096) ![0, 0, 0] S1x128x4096.size inb_S8x128x4096_S1x128x4096_0_0_0) f)
            ∗ (∃ f, ptR c sc2 (Rect.unit (s := S8x128x4096) ![1, 0, 0] S1x128x4096.size inb_S8x128x4096_S1x128x4096_1_0_0) f)
            ∗ (∃ f, ptR c sc2 (Rect.unit (s := S8x128x4096) ![2, 0, 0] S1x128x4096.size inb_S8x128x4096_S1x128x4096_2_0_0) f)
            ∗ (∃ f, ptR c sc2 (Rect.unit (s := S8x128x4096) ![3, 0, 0] S1x128x4096.size inb_S8x128x4096_S1x128x4096_3_0_0) f)
            ∗ (∃ f, ptR c sc2 (Rect.unit (s := S8x128x4096) ![4, 0, 0] S1x128x4096.size inb_S8x128x4096_S1x128x4096_4_0_0) f)
            ∗ (∃ f, ptR c sc2 (Rect.unit (s := S8x128x4096) ![5, 0, 0] S1x128x4096.size inb_S8x128x4096_S1x128x4096_5_0_0) f)
            ∗ (∃ f, ptR c sc2 (Rect.unit (s := S8x128x4096) ![6, 0, 0] S1x128x4096.size inb_S8x128x4096_S1x128x4096_6_0_0) f)
            ∗ (∃ f, ptR c sc2 (Rect.unit (s := S8x128x4096) ![7, 0, 0] S1x128x4096.size inb_S8x128x4096_S1x128x4096_7_0_0) f)
            ∗ (∃ f, ptR c sc3 (Rect.unit (s := S2x512x1024) ![0, 0, 0] S1x512x1024.size inb_S2x512x1024_S1x512x1024_0_0_0) f)
            ∗ (∃ f, ptR c sc3 (Rect.unit (s := S2x512x1024) ![1, 0, 0] S1x512x1024.size inb_S2x512x1024_S1x512x1024_1_0_0) f)
            ∗ (∃ f, ptW c sc4 f)
            ∗ (∃ f, ptR c sc5 (Rect.unit (s := S2x512x1024) ![0, 0, 0] S1x512x1024.size inb_S2x512x1024_S1x512x1024_0_0_0) f)
            ∗ (∃ f, ptR c sc5 (Rect.unit (s := S2x512x1024) ![1, 0, 0] S1x512x1024.size inb_S2x512x1024_S1x512x1024_1_0_0) f)
            ∗ (∃ f, ptR c sc6 (Rect.unit (s := S4x512x1024) ![0, 0, 0] S1x512x1024.size inb_S4x512x1024_S1x512x1024_0_0_0) f)
            ∗ (∃ f, ptR c sc6 (Rect.unit (s := S4x512x1024) ![1, 0, 0] S1x512x1024.size inb_S4x512x1024_S1x512x1024_1_0_0) f)
            ∗ (∃ f, ptR c sc6 (Rect.unit (s := S4x512x1024) ![2, 0, 0] S1x512x1024.size inb_S4x512x1024_S1x512x1024_2_0_0) f)
            ∗ (∃ f, ptR c sc6 (Rect.unit (s := S4x512x1024) ![3, 0, 0] S1x512x1024.size inb_S4x512x1024_S1x512x1024_3_0_0) f)
            ∗ (∃ f, ptW c sc7 f)
            ∗ (∃ f, ptR c sc8 (Rect.unit (s := S128x2048) ![0, 0] S128x512.size inb_S128x2048_S128x512_0_0) f)
            ∗ (∃ f, ptR c sc8 (Rect.unit (s := S128x2048) ![0, 512] S128x512.size inb_S128x2048_S128x512_0_512) f)
            ∗ (∃ f, ptR c sc8 (Rect.unit (s := S128x2048) ![0, 1024] S128x512.size inb_S128x2048_S128x512_0_1024) f)
            ∗ (∃ f, ptR c sc8 (Rect.unit (s := S128x2048) ![0, 1536] S128x512.size inb_S128x2048_S128x512_0_1536) f)
            ∗ ptW c hb0 a0
            ∗ ptW c hb1 a1
            ∗ ptW c hb2 a2
            ∗ ptW c hb3 a3
            ∗ ptW c hb4 a4
            ∗ ptW c hb5 a5
            ∗ ptW c hb6 a6
            ∗ ptR c hb7 (Rect.unit (s := S128x2048) ![0, 0] S128x512.size inb_S128x2048_S128x512_0_0) (hb7.view.writes (Elt F) a7_0 LG.2.1)
            ∗ ptR c hb7 (Rect.unit (s := S128x2048) ![0, 512] S128x512.size inb_S128x2048_S128x512_0_512) (hb7.view.writes (Elt F) a7_1 LG.2.2.1)
            ∗ ptR c hb7 (Rect.unit (s := S128x2048) ![0, 1024] S128x512.size inb_S128x2048_S128x512_0_1024) (hb7.view.writes (Elt F) a7_2 LG.2.2.2.1)
            ∗ ptR c hb7 (Rect.unit (s := S128x2048) ![0, 1536] S128x512.size inb_S128x2048_S128x512_0_1536) (hb7.view.writes (Elt F) a7_3 LG.2.2.2.2)
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ semVal ((c : Thread nD τ), SemLoc.dma 19) 0
            ∗ semVal ((c : Thread nD τ), SemLoc.dma 20) 0
            ∗ semVal ((c : Thread nD τ), SemLoc.dma 21) 0
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ semVal ((c : Thread nD τ), SemLoc.dma 28) 0
            ∗ semVal ((c : Thread nD τ), SemLoc.dma 29) 0
            ∗ semVal ((c : Thread nD τ), SemLoc.dma 30) 0
            ∗ semVal ((c : Thread nD τ), SemLoc.dma 32) 0
            ∗ semVal ((c : Thread nD τ), SemLoc.dma 33) 0
            ∗ semVal ((c : Thread nD τ), SemLoc.dma 34) 0
            ∗ semVal ((c : Thread nD τ), SemLoc.dma 35) 0
            ∗ (∃ W', owes (c : Thread nD τ) 0 W')) -∗ K ⟨⟩))
          ⊢ wp frame (wpE (defs₀ (F := F)) Variants.none c none) Set.univ
              (cc0__fused_kernel arg0 harg0 arg1 harg1 arg2 harg2 arg3 harg3 arg4 harg4 arg5 harg5 arg6 harg6 arg7 harg7 arg8 harg8 arg9 harg9 arg10 harg10 hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) arg19 harg19 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) cc0_scratch9 cc0_scratch10) K } := by
  refine ⟨(?_, ?_, ?_, ?_, ?_), fun W K => ?run⟩
  case run =>
    simp only [cc0__fused_kernel_eq_skeleton]; unfold cc0__fused_kernel_skel
    iintro ⟨H0, H1, H2, H3, H4, H5, H6, H7, H8, H9, H10, H19, HS0, HS1, HS2_0, HS2_1, HS2_2, HS2_3, HS2_4, HS2_5, HS2_6, HS2_7, HS3_0, HS3_1, HS4, HS5_0, HS5_1, HS6_0, HS6_1, HS6_2, HS6_3, HS7, HS8_0, HS8_1, HS8_2, HS8_3, HA0, HA1, HA2, HA3, HA4, HA5, HA6, HA7_0, HA7_1, HA7_2, HA7_3, Hq12, Hq13, Hq14, Hq15, Hq16, Hq17, Hq18, Hq19, Hq20, Hq21, Hq22, Hq23, Hq24, Hq25, Hq26, Hq27, Hq28, Hq29, Hq30, Hq32, Hq33, Hq34, Hq35, HW, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H19]; · iexact H19
    isplitl [HS0]; · iexists _; iexact HS0
    isplitl [HS1]; · iexists _; iexact HS1
    isplitl [HS2_0]; · iexists _; iexact HS2_0
    isplitl [HS2_1]; · iexists _; iexact HS2_1
    isplitl [HS2_2]; · iexists _; iexact HS2_2
    isplitl [HS2_3]; · iexists _; iexact HS2_3
    isplitl [HS2_4]; · iexists _; iexact HS2_4
    isplitl [HS2_5]; · iexists _; iexact HS2_5
    isplitl [HS2_6]; · iexists _; iexact HS2_6
    isplitl [HS2_7]; · iexists _; iexact HS2_7
    isplitl [HS3_0]; · iexists _; iexact HS3_0
    isplitl [HS3_1]; · iexists _; iexact HS3_1
    isplitl [HS4]; · iexists _; iexact HS4
    isplitl [HS5_0]; · iexists _; iexact HS5_0
    isplitl [HS5_1]; · iexists _; iexact HS5_1
    isplitl [HS6_0]; · iexists _; iexact HS6_0
    isplitl [HS6_1]; · iexists _; iexact HS6_1
    isplitl [HS6_2]; · iexists _; iexact HS6_2
    isplitl [HS6_3]; · iexists _; iexact HS6_3
    isplitl [HS7]; · iexists _; iexact HS7
    isplitl [HS8_0]; · iexists _; iexact HS8_0
    isplitl [HS8_1]; · iexists _; iexact HS8_1
    isplitl [HS8_2]; · iexists _; iexact HS8_2
    isplitl [HS8_3]; · iexists _; iexact HS8_3
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7_0]; · iexact HA7_0
    isplitl [HA7_1]; · iexact HA7_1
    isplitl [HA7_2]; · iexact HA7_2
    isplitl [HA7_3]; · iexact HA7_3
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq32]; · iexact Hq32
    isplitl [Hq33]; · iexact Hq33
    isplitl [Hq34]; · iexact Hq34
    isplitl [Hq35]; · iexact Hq35
    iexists _; iexact HW

end Cert.KernelIdeal.Hand

end
-- ==== Proof.KI.Loaded.lean ====
/-
  The values the run of the body leaves are the ones of `Values`: what it loads from a scratch buffer is what a copy
  has put there, and that is a window of an operand.
-/
module

public import proofs.«01_k».proof.Proof.KI.Values
public import proofs.«01_k».proof.Proof.KI.Body
public import Idealize.ShloMosaic.Lib.VecWindow

@[expose] public section

noncomputable section

namespace Cert.KernelIdeal.Hand

open Cert.KernelIdeal Cert.KernelIdeal.Gen
open Idealize.ShloMosaic Idealize.SL.Sem

variable {F : FTy → Type} [FloatOps F]

open Idealize.ShloMosaic.TcCoe

section Loads
variable {κ : Kind} {sp : Space} {S S' : Shape} {e : EltTy}

/-- A load of the slab a copy has just filled reads what was copied. -/
theorem readAt_slab (M : Memref sig κ sp S e) (r : Rect S) (hr : ∀ a, r.stride a = 1) (hq : r.shape.Squeezes S')
    (hc : r.shape.ShapeCasts S') (hc' : S'.ShapeCasts r.shape) (s : M.view.ty.Contents (Elt F)) (w : S'.Idx → Elt F e) :
    View.readAt (Elt F) M.view r.toLoadRect (View.write (Elt F) ((M.slice r hr).squeeze S' hq).view s w Finset.univ)
      = shapeCast r.shape w hc' := by
  have h := Memref.read_squeeze_slice (Val := Elt F) M r hr hq hc
    (View.write (Elt F) ((M.slice r hr).squeeze S' hq).view s w Finset.univ)
  rw [View.read_write_univ] at h
  conv_rhs => rw [h]
  rw [shapeCast_shapeCast]

/-- A load of a whole buffer just filled reads what was put there. -/
theorem readAt_filled (M : Memref sig κ sp S e) {off : Fin S.rank → ℕ}
    (inb : ∀ a, off a + S.size a ≤ S.size a) (s : M.view.ty.Contents (Elt F)) (w : S.Idx → Elt F e) :
    View.readAt (Elt F) M.view (Rect.unit off S.size inb).toLoadRect (View.write (Elt F) M.view s w Finset.univ) = w := by
  rw [View.readAt_full, View.read_write_univ]

/-- What leaves a slice that one store has filled is what was stored. -/
theorem read_slice_stored (M : Memref sig κ sp S e) (r : Rect S) (hr : ∀ a, r.stride a = 1)
    (s : M.view.ty.Contents (Elt F)) (w : r.shape.Idx → Elt F e) :
    View.read (Elt F) (M.slice r hr).view (M.view.writes (Elt F) s [⟨r, w⟩]) = w :=
  View.read_write_univ _ _

end Loads

/-- The operands as the buffers hold them. -/
def opsOf (c : Dev nD) (arg0 : Memref sig .tc .vmem S1x1024 .f32) (arg1 : Memref sig .tc .vmem S1x1024 .f32) (arg2 : Memref sig .tc .vmem S1x1024 .f32) (arg3 : Memref sig .tc .vmem S1x1024 .f32) (arg4 : Memref sig .tc .vmem S1x1024 .f32) (arg5 : Memref sig .tc .vmem S1x1024 .f32) (arg6 : Memref sig .tc .vmem S1x512 .f32) (arg7 : Memref sig .tc .vmem S32x512 .f32) (arg8 : Memref sig .tc .vmem S1x32 .f32) (arg9 : Memref sig .tc .vmem S1x1024 .f32) (arg10 : Memref sig .tc .vmem S1x2048 .f32) (f0 : CBuf (F := F) c arg0) (f1 : CBuf (F := F) c arg1) (f2 : CBuf (F := F) c arg2) (f3 : CBuf (F := F) c arg3) (f4 : CBuf (F := F) c arg4) (f5 : CBuf (F := F) c arg5) (f6 : CBuf (F := F) c arg6) (f7 : CBuf (F := F) c arg7) (f8 : CBuf (F := F) c arg8) (f9 : CBuf (F := F) c arg9) (f10 : CBuf (F := F) c arg10) (a0 : CBuf (F := F) c hb0) (a1 : CBuf (F := F) c hb1) (a2 : CBuf (F := F) c hb2) (a3 : CBuf (F := F) c hb3) (a4 : CBuf (F := F) c hb4) (a5 : CBuf (F := F) c hb5) (a6 : CBuf (F := F) c hb6) : Operands F :=
  ⟨hb0.view.read (Elt F) a0, hb1.view.read (Elt F) a1, hb2.view.read (Elt F) a2, hb3.view.read (Elt F) a3,
    hb4.view.read (Elt F) a4, hb5.view.read (Elt F) a5, hb6.view.read (Elt F) a6,
    arg0.view.read (Elt F) f0, arg1.view.read (Elt F) f1, arg2.view.read (Elt F) f2, arg3.view.read (Elt F) f3,
    arg4.view.read (Elt F) f4, arg5.view.read (Elt F) f5, arg6.view.read (Elt F) f6, arg7.view.read (Elt F) f7,
    arg8.view.read (Elt F) f8, arg9.view.read (Elt F) f9, arg10.view.read (Elt F) f10⟩

/-- The pieces the run leaves, of the first result and of the four column blocks of the second. -/
def leaves (o : Operands F) : List (View.Piece (Elt F) S128x32 .f32) × List (View.Piece (Elt F) S128x2048 .f32)
    × List (View.Piece (Elt F) S128x2048 .f32) × List (View.Piece (Elt F) S128x2048 .f32) × List (View.Piece (Elt F) S128x2048 .f32) :=
  ([⟨Rect.unit (s := S128x32) ![0, 0] S128x32.size inb_S128x32_S128x32_0_0, par o⟩],
    [⟨Rect.unit (s := S128x2048) ![0, 0] S128x512.size inb_S128x2048_S128x512_0_0, pos0 o⟩],
    [⟨Rect.unit (s := S128x2048) ![0, 512] S128x512.size inb_S128x2048_S128x512_0_512, pos1 o⟩],
    [⟨Rect.unit (s := S128x2048) ![0, 1024] S128x512.size inb_S128x2048_S128x512_0_1024, pos2 o⟩],
    [⟨Rect.unit (s := S128x2048) ![0, 1536] S128x512.size inb_S128x2048_S128x512_0_1536, pos3 o⟩])

/-- What the load `v40` reads is a slab of 128 rows of the first weight. -/
theorem v40_eq (c : Dev nD) (s : CBuf (F := F) c sc2) (a : CBuf (F := F) c hb2) :
    run0.sl.v40 c s a = slab1 (hb2.view.read (Elt F) a) ![0, 0] inb_S1024x4096_S128x4096_0_0 :=
  readAt_slab sc2 _ _ _ (by decide) _ s _

/-- What the load `v58` reads is a slab of 128 rows of the first weight. -/
theorem v58_eq (c : Dev nD) (s : CBuf (F := F) c sc2) (a : CBuf (F := F) c hb2) :
    run0.sl.v58 c s a = slab1 (hb2.view.read (Elt F) a) ![128, 0] inb_S1024x4096_S128x4096_128_0 :=
  readAt_slab sc2 _ _ _ (by decide) _ s _

/-- What the load `v76` reads is a slab of 128 rows of the first weight. -/
theorem v76_eq (c : Dev nD) (s : CBuf (F := F) c sc2) (a : CBuf (F := F) c hb2) :
    run0.sl.v76 c s a = slab1 (hb2.view.read (Elt F) a) ![256, 0] inb_S1024x4096_S128x4096_256_0 :=
  readAt_slab sc2 _ _ _ (by decide) _ s _

/-- What the load `v94` reads is a slab of 128 rows of the first weight. -/
theorem v94_eq (c : Dev nD) (s : CBuf (F := F) c sc2) (a : CBuf (F := F) c hb2) :
    run0.sl.v94 c s a = slab1 (hb2.view.read (Elt F) a) ![384, 0] inb_S1024x4096_S128x4096_384_0 :=
  readAt_slab sc2 _ _ _ (by decide) _ s _

/-- What the load `v112` reads is a slab of 128 rows of the first weight. -/
theorem v112_eq (c : Dev nD) (s : CBuf (F := F) c sc2) (a : CBuf (F := F) c hb2) :
    run0.sl.v112 c s a = slab1 (hb2.view.read (Elt F) a) ![512, 0] inb_S1024x4096_S128x4096_512_0 :=
  readAt_slab sc2 _ _ _ (by decide) _ s _

/-- What the load `v127` reads is a slab of 128 rows of the first weight. -/
theorem v127_eq (c : Dev nD) (s : CBuf (F := F) c sc2) (a : CBuf (F := F) c hb2) :
    run0.sl.v127 c s a = slab1 (hb2.view.read (Elt F) a) ![640, 0] inb_S1024x4096_S128x4096_640_0 :=
  readAt_slab sc2 _ _ _ (by decide) _ s _

/-- What the load `v145` reads is a slab of 128 rows of the first weight. -/
theorem v145_eq (c : Dev nD) (s : CBuf (F := F) c sc2) (a : CBuf (F := F) c hb2) :
    run0.sl.v145 c s a = slab1 (hb2.view.read (Elt F) a) ![768, 0] inb_S1024x4096_S128x4096_768_0 :=
  readAt_slab sc2 _ _ _ (by decide) _ s _

/-- What the load `v163` reads is a slab of 128 rows of the first weight. -/
theorem v163_eq (c : Dev nD) (s : CBuf (F := F) c sc2) (a : CBuf (F := F) c hb2) :
    run0.sl.v163 c s a = slab1 (hb2.view.read (Elt F) a) ![896, 0] inb_S1024x4096_S128x4096_896_0 :=
  readAt_slab sc2 _ _ _ (by decide) _ s _

/-- What the load `v209` reads is a slab of 512 rows of the second weight. -/
theorem v209_eq (c : Dev nD) (s : CBuf (F := F) c sc3) (a : CBuf (F := F) c hb3) :
    run0.sl.v209 c s a = slab2 (hb3.view.read (Elt F) a) ![0, 0] inb_S1024x1024_S512x1024_0_0 :=
  readAt_slab sc3 _ _ _ (by decide) _ s _

/-- What the load `v224` reads is a slab of 512 rows of the second weight. -/
theorem v224_eq (c : Dev nD) (s : CBuf (F := F) c sc3) (a : CBuf (F := F) c hb3) :
    run0.sl.v224 c s a = slab2 (hb3.view.read (Elt F) a) ![512, 0] inb_S1024x1024_S512x1024_512_0 :=
  readAt_slab sc3 _ _ _ (by decide) _ s _

/-- What the load `v279` reads is a slab of 512 rows of the second head's first weight. -/
theorem v279_eq (c : Dev nD) (s : CBuf (F := F) c sc5) (a : CBuf (F := F) c hb5) :
    run0.sl.v279 c s a = slab2 (hb5.view.read (Elt F) a) ![0, 0] inb_S1024x1024_S512x1024_0_0 :=
  readAt_slab sc5 _ _ _ (by decide) _ s _

/-- What the load `v294` reads is a slab of 512 rows of the second head's first weight. -/
theorem v294_eq (c : Dev nD) (s : CBuf (F := F) c sc5) (a : CBuf (F := F) c hb5) :
    run0.sl.v294 c s a = slab2 (hb5.view.read (Elt F) a) ![512, 0] inb_S1024x1024_S512x1024_512_0 :=
  readAt_slab sc5 _ _ _ (by decide) _ s _

/-- What the load `v342` reads is a slab of 512 rows of the second head's second weight. -/
theorem v342_eq (c : Dev nD) (s : CBuf (F := F) c sc6) (a : CBuf (F := F) c hb6) :
    run0.sl.v342 c s a = slab4 (hb6.view.read (Elt F) a) ![0, 0] inb_S2048x1024_S512x1024_0_0 :=
  readAt_slab sc6 _ _ _ (by decide) _ s _

/-- What the load `v368` reads is a slab of 512 rows of the second head's second weight. -/
theorem v368_eq (c : Dev nD) (s : CBuf (F := F) c sc6) (a : CBuf (F := F) c hb6) :
    run0.sl.v368 c s a = slab4 (hb6.view.read (Elt F) a) ![512, 0] inb_S2048x1024_S512x1024_512_0 :=
  readAt_slab sc6 _ _ _ (by decide) _ s _

/-- What the load `v394` reads is a slab of 512 rows of the second head's second weight. -/
theorem v394_eq (c : Dev nD) (s : CBuf (F := F) c sc6) (a : CBuf (F := F) c hb6) :
    run0.sl.v394 c s a = slab4 (hb6.view.read (Elt F) a) ![1024, 0] inb_S2048x1024_S512x1024_1024_0 :=
  readAt_slab sc6 _ _ _ (by decide) _ s _

/-- What the load `v420` reads is a slab of 512 rows of the second head's second weight. -/
theorem v420_eq (c : Dev nD) (s : CBuf (F := F) c sc6) (a : CBuf (F := F) c hb6) :
    run0.sl.v420 c s a = slab4 (hb6.view.read (Elt F) a) ![1536, 0] inb_S2048x1024_S512x1024_1536_0 :=
  readAt_slab sc6 _ _ _ (by decide) _ s _

/-- The state, loaded from its scratch buffer. -/
theorem r_eq (c : Dev nD) (s : CBuf (F := F) c sc0) (a : CBuf (F := F) c hb0) :
    run0.sl.r c s a = hb0.view.read (Elt F) a := readAt_filled sc0 _ s _

/-- The mask, loaded from its scratch buffer. -/
theorem r_6_eq (c : Dev nD) (s : CBuf (F := F) c sc1) (a : CBuf (F := F) c hb1) :
    run0.sl.r_6 c s a = hb1.view.read (Elt F) a := readAt_filled sc1 _ s _

/-- The first product, loaded back after its eight column blocks were stored. -/
theorem v171_eq (c : Dev nD) (s : CBuf (F := F) c sc0) (t0 : CBuf (F := F) c sc2) (t1 : CBuf (F := F) c sc2) (t2 : CBuf (F := F) c sc2) (t3 : CBuf (F := F) c sc2) (t4 : CBuf (F := F) c sc2) (t5 : CBuf (F := F) c sc2) (t6 : CBuf (F := F) c sc2) (t7 : CBuf (F := F) c sc2) (a : CBuf (F := F) c hb0) (a' : CBuf (F := F) c hb2) :
    run0.sl.v171 c s t0 t1 t2 t3 t4 t5 t6 t7 a a' = h (hb0.view.read (Elt F) a) (hb2.view.read (Elt F) a') := by
  have hL : run0.sl.HS7_8 c s t0 t1 t2 t3 t4 t5 t6 t7 a a' = hPieces (hb0.view.read (Elt F) a) (hb2.view.read (Elt F) a') := by
    unfold run0.sl.HS7_8 run0.sl.r_1 run0.sl.r_2 hPieces
    rw [v40_eq, v58_eq, v76_eq, v94_eq, v112_eq, v127_eq, v145_eq, v163_eq, r_eq, readAt_filled sc0]
    rfl
  unfold run0.sl.v171
  rw [hL]
  exact (View.readAt_full sc7.view _ _).trans (View.read_writes_eq_canon sc7.view _ _
    (View.cover_of_tiledL _ S128x128.size (by sl_kernel_rfl)))

set_option maxHeartbeats 4000000 in
set_option maxRecDepth 65536 in
/-- The run leaves the values of `Values`. -/
theorem run0_leaves (c : Dev nD) (arg0 : Memref sig .tc .vmem S1x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S1x1024 .f32) (harg9 : arg9.IsWhole) (arg10 : Memref sig .tc .vmem S1x2048 .f32) (harg10 : arg10.IsWhole) (arg19 : Memref sig .tc .vmem S128x32 .f32) (harg19 : arg19.IsWhole)
    (f0 : CBuf (F := F) c arg0) (f1 : CBuf (F := F) c arg1) (f2 : CBuf (F := F) c arg2) (f3 : CBuf (F := F) c arg3) (f4 : CBuf (F := F) c arg4) (f5 : CBuf (F := F) c arg5) (f6 : CBuf (F := F) c arg6) (f7 : CBuf (F := F) c arg7) (f8 : CBuf (F := F) c arg8) (f9 : CBuf (F := F) c arg9) (f10 : CBuf (F := F) c arg10) (f19 : CBuf (F := F) c arg19)
    (s0 : CBuf (F := F) c sc0) (s1 : CBuf (F := F) c sc1) (s2_0 : CBuf (F := F) c sc2) (s2_1 : CBuf (F := F) c sc2) (s2_2 : CBuf (F := F) c sc2) (s2_3 : CBuf (F := F) c sc2) (s2_4 : CBuf (F := F) c sc2) (s2_5 : CBuf (F := F) c sc2) (s2_6 : CBuf (F := F) c sc2) (s2_7 : CBuf (F := F) c sc2) (s3_0 : CBuf (F := F) c sc3) (s3_1 : CBuf (F := F) c sc3) (s4 : CBuf (F := F) c sc4) (s5_0 : CBuf (F := F) c sc5) (s5_1 : CBuf (F := F) c sc5) (s6_0 : CBuf (F := F) c sc6) (s6_1 : CBuf (F := F) c sc6) (s6_2 : CBuf (F := F) c sc6) (s6_3 : CBuf (F := F) c sc6) (s7 : CBuf (F := F) c sc7) (s8_0 : CBuf (F := F) c sc8) (s8_1 : CBuf (F := F) c sc8) (s8_2 : CBuf (F := F) c sc8) (s8_3 : CBuf (F := F) c sc8) (a0 : CBuf (F := F) c hb0) (a1 : CBuf (F := F) c hb1) (a2 : CBuf (F := F) c hb2) (a3 : CBuf (F := F) c hb3) (a4 : CBuf (F := F) c hb4) (a5 : CBuf (F := F) c hb5) (a6 : CBuf (F := F) c hb6) (a7_0 : CBuf (F := F) c hb7) (a7_1 : CBuf (F := F) c hb7) (a7_2 : CBuf (F := F) c hb7) (a7_3 : CBuf (F := F) c hb7) :
    (run0 c arg0 harg0 arg1 harg1 arg2 harg2 arg3 harg3 arg4 harg4 arg5 harg5 arg6 harg6 arg7 harg7 arg8 harg8 arg9 harg9 arg10 harg10 arg19 harg19 f0 f1 f2 f3 f4 f5 f6 f7 f8 f9 f10 f19 s0 s1 s2_0 s2_1 s2_2 s2_3 s2_4 s2_5 s2_6 s2_7 s3_0 s3_1 s4 s5_0 s5_1 s6_0 s6_1 s6_2 s6_3 s7 s8_0 s8_1 s8_2 s8_3 a0 a1 a2 a3 a4 a5 a6 a7_0 a7_1 a7_2 a7_3).1 = leaves (opsOf c arg0 arg1 arg2 arg3 arg4 arg5 arg6 arg7 arg8 arg9 arg10 f0 f1 f2 f3 f4 f5 f6 f7 f8 f9 f10 a0 a1 a2 a3 a4 a5 a6) := by
  refine Prod.ext ?_ (Prod.ext ?_ (Prod.ext ?_ (Prod.ext ?_ ?_)))
  · refine congrArg (fun v => [(⟨_, v⟩ : View.Piece (Elt F) S128x32 .f32)]) ?_
    unfold run0.sl.r_10 run0.sl.r_11 run0.sl.r_7 run0.sl.r_5 run0.sl.r_4 run0.sl.r_3
    rw [v209_eq, v224_eq, v171_eq, r_6_eq, readAt_filled sc4]
    repeat rw [View.readAt_full]
    rfl
  · refine congrArg (fun v => [(⟨_, v⟩ : View.Piece (Elt F) S128x2048 .f32)]) ?_
    unfold run0.sl.dma48 run0.sl.HS8_0_1
    refine (read_slice_stored sc8 _ _ _ _).trans ?_
    unfold run0.sl.r_9 run0.sl.r_8 run0.sl.r_7 run0.sl.r_5 run0.sl.r_4 run0.sl.r_3
    rw [v342_eq, v279_eq, v294_eq, v209_eq, v224_eq, v171_eq, r_6_eq]
    repeat rw [View.readAt_full]
    rfl
  · refine congrArg (fun v => [(⟨_, v⟩ : View.Piece (Elt F) S128x2048 .f32)]) ?_
    unfold run0.sl.dma52 run0.sl.HS8_1_1
    refine (read_slice_stored sc8 _ _ _ _).trans ?_
    unfold run0.sl.r_9 run0.sl.r_8 run0.sl.r_7 run0.sl.r_5 run0.sl.r_4 run0.sl.r_3
    rw [v368_eq, v279_eq, v294_eq, v209_eq, v224_eq, v171_eq, r_6_eq]
    repeat rw [View.readAt_full]
    rfl
  · refine congrArg (fun v => [(⟨_, v⟩ : View.Piece (Elt F) S128x2048 .f32)]) ?_
    unfold run0.sl.dma56 run0.sl.HS8_2_1
    refine (read_slice_stored sc8 _ _ _ _).trans ?_
    unfold run0.sl.r_9 run0.sl.r_8 run0.sl.r_7 run0.sl.r_5 run0.sl.r_4 run0.sl.r_3
    rw [v394_eq, v279_eq, v294_eq, v209_eq, v224_eq, v171_eq, r_6_eq]
    repeat rw [View.readAt_full]
    rfl
  · refine congrArg (fun v => [(⟨_, v⟩ : View.Piece (Elt F) S128x2048 .f32)]) ?_
    unfold run0.sl.dma60 run0.sl.HS8_3_1
    refine (read_slice_stored sc8 _ _ _ _).trans ?_
    unfold run0.sl.r_12 run0.sl.r_9 run0.sl.r_8 run0.sl.r_7 run0.sl.r_5 run0.sl.r_4 run0.sl.r_3
    rw [v420_eq, v279_eq, v294_eq, v209_eq, v224_eq, v171_eq, r_6_eq]
    repeat rw [View.readAt_full]
    rfl

end Cert.KernelIdeal.Hand

end
-- ==== Proof.KI.Split.lean ====
module

public import proofs.«01_k».proof.Proof.KI.Loaded

/-! # A buffer held whole, and held slab by slab

The kernel's copies fill a scratch buffer one slab at a time, so the run holds such a buffer by its slabs. Here a
buffer is cut into its slabs, and the slabs are joined again. The same for the second result, which leaves
the core one block of columns at a time. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

section Stripes
variable {sp : Space} {S : Shape} {e : EltTy} {n : ℕ}

/-- The elements of a buffer under rectangle `i` of a family. -/
def under (c : Dev nD) (M : Memref sig .tc sp S e) (r : Fin n → Rect S) (i : Fin n) : Finset (Idx (M.view.loc (c : Thread nD τ))) :=
  M.view.setOn (r i).set

/-- Disjoint rectangles stay disjoint inside the buffer. -/
theorem under_disjoint (c : Dev nD) (M : Memref sig .tc sp S e) (r : Fin n → Rect S) (hd : ∀ i j, i ≠ j → Disjoint (r i).set (r j).set) :
    ∀ i j, i ≠ j → Disjoint (under c M r i) (under c M r j) := fun i j h =>
  (Finset.disjoint_map _).mpr (hd i j h)

/-- Rectangles that cover the shape cover a buffer viewed whole. -/
theorem under_cover (c : Dev nD) (M : Memref sig .tc sp S e) (hM : M.IsWhole) (r : Fin n → Rect S)
    (hc : Finset.univ.biUnion (fun i => (r i).set) = Finset.univ) :
    Finset.univ.biUnion (under c M r) = Finset.univ := by
  refine Finset.eq_univ_iff_forall.mpr fun x => ?_
  obtain ⟨y, rfl⟩ := View.exists_emb_of_mem_set M.view (show x ∈ M.view.set from hM.set_eq_univ ▸ Finset.mem_univ _)
  obtain ⟨i, -, hi⟩ := Finset.mem_biUnion.mp (hc ▸ Finset.mem_univ y)
  exact Finset.mem_biUnion.mpr ⟨i, Finset.mem_univ _, (View.mem_setOn ..).mpr hi⟩

/-- A buffer held whole is held rectangle by rectangle. -/
theorem stripes_split (c : Dev nD) (M : Memref sig .tc sp S e) (hM : M.IsWhole) (r : Fin n → Rect S)
    (hd : ∀ i j, i ≠ j → Disjoint (r i).set (r j).set) (hc : Finset.univ.biUnion (fun i => (r i).set) = Finset.univ)
    (f : CBuf (F := F) c M) : (ptW c M f : sProp 𝕄) = bigSep Finset.univ fun i => M.view.loc (c : Thread nD τ) ↦[under c M r i]{fullShare} f :=
  Ring.pointsTo_blocks (under c M r) (under_disjoint c M r hd) (under_cover c M hM r hc) f

/-- Rectangles each held at some contents join to the buffer held whole at some contents. -/
theorem stripes_join (c : Dev nD) (M : Memref sig .tc sp S e) (hM : M.IsWhole) (r : Fin n → Rect S)
    (hd : ∀ i j, i ≠ j → Disjoint (r i).set (r j).set) (hc : Finset.univ.biUnion (fun i => (r i).set) = Finset.univ)
    (f₀ : CBuf (F := F) c M) :
    bigSep Finset.univ (fun i => iprop(∃ f : Buf (Elt F) (M.view.loc (c : Thread nD τ)), M.view.loc (c : Thread nD τ) ↦[under c M r i]{fullShare} f)) ⊢ (iprop(∃ g : Buf (Elt F) (M.view.loc (c : Thread nD τ)), M.view.loc (c : Thread nD τ) ↦{fullShare} g) : sProp 𝕄) :=
  Ring.pointsTo_blocks_join_exists (under c M r) (under_disjoint c M r hd) (under_cover c M hM r hc) f₀

end Stripes

/-- Slab `k` of a buffer of shape S8x128x4096. -/
abbrev offS8x128x4096 (k : Fin 8) : Fin S8x128x4096.rank → ℕ := ![k.val, 0, 0]
/-- Every slab lies within the buffer. -/
theorem inbS8x128x4096 (k : Fin 8) : ∀ a, offS8x128x4096 k a + S1x128x4096.size a ≤ S8x128x4096.size a := by revert k; decide
/-- The rectangle of that part. -/
abbrev partS8x128x4096 (k : Fin 8) : Rect S8x128x4096 := Rect.unit (s := S8x128x4096) (offS8x128x4096 k) S1x128x4096.size (inbS8x128x4096 k)
/-- Two slabs share no element. -/
theorem partS8x128x4096_disjoint (i j : Fin 8) (h : i ≠ j) : Disjoint (partS8x128x4096 i).set (partS8x128x4096 j).set :=
  Ring.lead_disjoint (s := S8x128x4096) (NB := 8) 0 1 offS8x128x4096 S1x128x4096.size inbS8x128x4096 (by decide) (by decide) i j h
/-- The slabs cover the buffer. -/
theorem partS8x128x4096_cover : Finset.univ.biUnion (fun i => (partS8x128x4096 i).set) = Finset.univ :=
  Ring.lead_cover (s := S8x128x4096) (NB := 8) 0 1 offS8x128x4096 S1x128x4096.size inbS8x128x4096 (by decide) (by decide) (by decide) (by decide) (by decide)

/-- Slab `k` of a buffer of shape S2x512x1024. -/
abbrev offS2x512x1024 (k : Fin 2) : Fin S2x512x1024.rank → ℕ := ![k.val, 0, 0]
/-- Every slab lies within the buffer. -/
theorem inbS2x512x1024 (k : Fin 2) : ∀ a, offS2x512x1024 k a + S1x512x1024.size a ≤ S2x512x1024.size a := by revert k; decide
/-- The rectangle of that part. -/
abbrev partS2x512x1024 (k : Fin 2) : Rect S2x512x1024 := Rect.unit (s := S2x512x1024) (offS2x512x1024 k) S1x512x1024.size (inbS2x512x1024 k)
/-- Two slabs share no element. -/
theorem partS2x512x1024_disjoint (i j : Fin 2) (h : i ≠ j) : Disjoint (partS2x512x1024 i).set (partS2x512x1024 j).set :=
  Ring.lead_disjoint (s := S2x512x1024) (NB := 2) 0 1 offS2x512x1024 S1x512x1024.size inbS2x512x1024 (by decide) (by decide) i j h
/-- The slabs cover the buffer. -/
theorem partS2x512x1024_cover : Finset.univ.biUnion (fun i => (partS2x512x1024 i).set) = Finset.univ :=
  Ring.lead_cover (s := S2x512x1024) (NB := 2) 0 1 offS2x512x1024 S1x512x1024.size inbS2x512x1024 (by decide) (by decide) (by decide) (by decide) (by decide)

/-- Slab `k` of a buffer of shape S4x512x1024. -/
abbrev offS4x512x1024 (k : Fin 4) : Fin S4x512x1024.rank → ℕ := ![k.val, 0, 0]
/-- Every slab lies within the buffer. -/
theorem inbS4x512x1024 (k : Fin 4) : ∀ a, offS4x512x1024 k a + S1x512x1024.size a ≤ S4x512x1024.size a := by revert k; decide
/-- The rectangle of that part. -/
abbrev partS4x512x1024 (k : Fin 4) : Rect S4x512x1024 := Rect.unit (s := S4x512x1024) (offS4x512x1024 k) S1x512x1024.size (inbS4x512x1024 k)
/-- Two slabs share no element. -/
theorem partS4x512x1024_disjoint (i j : Fin 4) (h : i ≠ j) : Disjoint (partS4x512x1024 i).set (partS4x512x1024 j).set :=
  Ring.lead_disjoint (s := S4x512x1024) (NB := 4) 0 1 offS4x512x1024 S1x512x1024.size inbS4x512x1024 (by decide) (by decide) i j h
/-- The slabs cover the buffer. -/
theorem partS4x512x1024_cover : Finset.univ.biUnion (fun i => (partS4x512x1024 i).set) = Finset.univ :=
  Ring.lead_cover (s := S4x512x1024) (NB := 4) 0 1 offS4x512x1024 S1x512x1024.size inbS4x512x1024 (by decide) (by decide) (by decide) (by decide) (by decide)

/-- Block of columns `k` of a buffer of shape S128x2048. -/
abbrev offS128x2048 (k : Fin 4) : Fin S128x2048.rank → ℕ := ![0, 512 * k.val]
/-- Every slab lies within the buffer. -/
theorem inbS128x2048 (k : Fin 4) : ∀ a, offS128x2048 k a + S128x512.size a ≤ S128x2048.size a := by revert k; decide
/-- The rectangle of that part. -/
abbrev partS128x2048 (k : Fin 4) : Rect S128x2048 := Rect.unit (s := S128x2048) (offS128x2048 k) S128x512.size (inbS128x2048 k)
/-- Two slabs share no element. -/
theorem partS128x2048_disjoint (i j : Fin 4) (h : i ≠ j) : Disjoint (partS128x2048 i).set (partS128x2048 j).set :=
  Ring.lead_disjoint (s := S128x2048) (NB := 4) 1 512 offS128x2048 S128x512.size inbS128x2048 (by decide) (by decide) i j h
/-- The slabs cover the buffer. -/
theorem partS128x2048_cover : Finset.univ.biUnion (fun i => (partS128x2048 i).set) = Finset.univ :=
  Ring.lead_cover (s := S128x2048) (NB := 4) 1 512 offS128x2048 S128x512.size inbS128x2048 (by decide) (by decide) (by decide) (by decide) (by decide)

/-- `sc2` cut into its 8 parts. -/
theorem split_sc2 (c : Dev nD) (f : CBuf (F := F) c sc2) :
    ptW c sc2 f = (iprop(ptR c sc2 (Rect.unit (s := S8x128x4096) ![0, 0, 0] S1x128x4096.size inb_S8x128x4096_S1x128x4096_0_0_0) f ∗ ptR c sc2 (Rect.unit (s := S8x128x4096) ![1, 0, 0] S1x128x4096.size inb_S8x128x4096_S1x128x4096_1_0_0) f ∗ ptR c sc2 (Rect.unit (s := S8x128x4096) ![2, 0, 0] S1x128x4096.size inb_S8x128x4096_S1x128x4096_2_0_0) f ∗ ptR c sc2 (Rect.unit (s := S8x128x4096) ![3, 0, 0] S1x128x4096.size inb_S8x128x4096_S1x128x4096_3_0_0) f ∗ ptR c sc2 (Rect.unit (s := S8x128x4096) ![4, 0, 0] S1x128x4096.size inb_S8x128x4096_S1x128x4096_4_0_0) f ∗ ptR c sc2 (Rect.unit (s := S8x128x4096) ![5, 0, 0] S1x128x4096.size inb_S8x128x4096_S1x128x4096_5_0_0) f ∗ ptR c sc2 (Rect.unit (s := S8x128x4096) ![6, 0, 0] S1x128x4096.size inb_S8x128x4096_S1x128x4096_6_0_0) f ∗ ptR c sc2 (Rect.unit (s := S8x128x4096) ![7, 0, 0] S1x128x4096.size inb_S8x128x4096_S1x128x4096_7_0_0) f) : sProp 𝕄) := by
  rw [stripes_split c sc2 (Memref.isWhole_whole _) partS8x128x4096 partS8x128x4096_disjoint partS8x128x4096_cover f,
    bigSep_univ_eq_bigSepL [(0 : Fin 8), (1 : Fin 8), (2 : Fin 8), (3 : Fin 8), (4 : Fin 8), (5 : Fin 8), (6 : Fin 8), (7 : Fin 8)] (by decide) (by decide)]
  rfl

/-- The 8 parts of `sc2` joined. -/
theorem join_sc2 (c : Dev nD) (f₀ : CBuf (F := F) c sc2) :
    iprop((∃ f : CBuf (F := F) c sc2, ptR c sc2 (Rect.unit (s := S8x128x4096) ![0, 0, 0] S1x128x4096.size inb_S8x128x4096_S1x128x4096_0_0_0) f) ∗ (∃ f : CBuf (F := F) c sc2, ptR c sc2 (Rect.unit (s := S8x128x4096) ![1, 0, 0] S1x128x4096.size inb_S8x128x4096_S1x128x4096_1_0_0) f) ∗ (∃ f : CBuf (F := F) c sc2, ptR c sc2 (Rect.unit (s := S8x128x4096) ![2, 0, 0] S1x128x4096.size inb_S8x128x4096_S1x128x4096_2_0_0) f) ∗ (∃ f : CBuf (F := F) c sc2, ptR c sc2 (Rect.unit (s := S8x128x4096) ![3, 0, 0] S1x128x4096.size inb_S8x128x4096_S1x128x4096_3_0_0) f) ∗ (∃ f : CBuf (F := F) c sc2, ptR c sc2 (Rect.unit (s := S8x128x4096) ![4, 0, 0] S1x128x4096.size inb_S8x128x4096_S1x128x4096_4_0_0) f) ∗ (∃ f : CBuf (F := F) c sc2, ptR c sc2 (Rect.unit (s := S8x128x4096) ![5, 0, 0] S1x128x4096.size inb_S8x128x4096_S1x128x4096_5_0_0) f) ∗ (∃ f : CBuf (F := F) c sc2, ptR c sc2 (Rect.unit (s := S8x128x4096) ![6, 0, 0] S1x128x4096.size inb_S8x128x4096_S1x128x4096_6_0_0) f) ∗ (∃ f : CBuf (F := F) c sc2, ptR c sc2 (Rect.unit (s := S8x128x4096) ![7, 0, 0] S1x128x4096.size inb_S8x128x4096_S1x128x4096_7_0_0) f)) ⊢ (iprop(∃ g : CBuf (F := F) c sc2, ptW c sc2 g) : sProp 𝕄) := by
  have h := stripes_join c sc2 (Memref.isWhole_whole _) partS8x128x4096 partS8x128x4096_disjoint partS8x128x4096_cover f₀
  rw [bigSep_univ_eq_bigSepL [(0 : Fin 8), (1 : Fin 8), (2 : Fin 8), (3 : Fin 8), (4 : Fin 8), (5 : Fin 8), (6 : Fin 8), (7 : Fin 8)] (by decide) (by decide)] at h
  exact h

/-- `sc3` cut into its 2 parts. -/
theorem split_sc3 (c : Dev nD) (f : CBuf (F := F) c sc3) :
    ptW c sc3 f = (iprop(ptR c sc3 (Rect.unit (s := S2x512x1024) ![0, 0, 0] S1x512x1024.size inb_S2x512x1024_S1x512x1024_0_0_0) f ∗ ptR c sc3 (Rect.unit (s := S2x512x1024) ![1, 0, 0] S1x512x1024.size inb_S2x512x1024_S1x512x1024_1_0_0) f) : sProp 𝕄) := by
  rw [stripes_split c sc3 (Memref.isWhole_whole _) partS2x512x1024 partS2x512x1024_disjoint partS2x512x1024_cover f,
    bigSep_univ_eq_bigSepL [(0 : Fin 2), (1 : Fin 2)] (by decide) (by decide)]
  rfl

/-- The 2 parts of `sc3` joined. -/
theorem join_sc3 (c : Dev nD) (f₀ : CBuf (F := F) c sc3) :
    iprop((∃ f : CBuf (F := F) c sc3, ptR c sc3 (Rect.unit (s := S2x512x1024) ![0, 0, 0] S1x512x1024.size inb_S2x512x1024_S1x512x1024_0_0_0) f) ∗ (∃ f : CBuf (F := F) c sc3, ptR c sc3 (Rect.unit (s := S2x512x1024) ![1, 0, 0] S1x512x1024.size inb_S2x512x1024_S1x512x1024_1_0_0) f)) ⊢ (iprop(∃ g : CBuf (F := F) c sc3, ptW c sc3 g) : sProp 𝕄) := by
  have h := stripes_join c sc3 (Memref.isWhole_whole _) partS2x512x1024 partS2x512x1024_disjoint partS2x512x1024_cover f₀
  rw [bigSep_univ_eq_bigSepL [(0 : Fin 2), (1 : Fin 2)] (by decide) (by decide)] at h
  exact h

/-- `sc5` cut into its 2 parts. -/
theorem split_sc5 (c : Dev nD) (f : CBuf (F := F) c sc5) :
    ptW c sc5 f = (iprop(ptR c sc5 (Rect.unit (s := S2x512x1024) ![0, 0, 0] S1x512x1024.size inb_S2x512x1024_S1x512x1024_0_0_0) f ∗ ptR c sc5 (Rect.unit (s := S2x512x1024) ![1, 0, 0] S1x512x1024.size inb_S2x512x1024_S1x512x1024_1_0_0) f) : sProp 𝕄) := by
  rw [stripes_split c sc5 (Memref.isWhole_whole _) partS2x512x1024 partS2x512x1024_disjoint partS2x512x1024_cover f,
    bigSep_univ_eq_bigSepL [(0 : Fin 2), (1 : Fin 2)] (by decide) (by decide)]
  rfl

/-- The 2 parts of `sc5` joined. -/
theorem join_sc5 (c : Dev nD) (f₀ : CBuf (F := F) c sc5) :
    iprop((∃ f : CBuf (F := F) c sc5, ptR c sc5 (Rect.unit (s := S2x512x1024) ![0, 0, 0] S1x512x1024.size inb_S2x512x1024_S1x512x1024_0_0_0) f) ∗ (∃ f : CBuf (F := F) c sc5, ptR c sc5 (Rect.unit (s := S2x512x1024) ![1, 0, 0] S1x512x1024.size inb_S2x512x1024_S1x512x1024_1_0_0) f)) ⊢ (iprop(∃ g : CBuf (F := F) c sc5, ptW c sc5 g) : sProp 𝕄) := by
  have h := stripes_join c sc5 (Memref.isWhole_whole _) partS2x512x1024 partS2x512x1024_disjoint partS2x512x1024_cover f₀
  rw [bigSep_univ_eq_bigSepL [(0 : Fin 2), (1 : Fin 2)] (by decide) (by decide)] at h
  exact h

/-- `sc6` cut into its 4 parts. -/
theorem split_sc6 (c : Dev nD) (f : CBuf (F := F) c sc6) :
    ptW c sc6 f = (iprop(ptR c sc6 (Rect.unit (s := S4x512x1024) ![0, 0, 0] S1x512x1024.size inb_S4x512x1024_S1x512x1024_0_0_0) f ∗ ptR c sc6 (Rect.unit (s := S4x512x1024) ![1, 0, 0] S1x512x1024.size inb_S4x512x1024_S1x512x1024_1_0_0) f ∗ ptR c sc6 (Rect.unit (s := S4x512x1024) ![2, 0, 0] S1x512x1024.size inb_S4x512x1024_S1x512x1024_2_0_0) f ∗ ptR c sc6 (Rect.unit (s := S4x512x1024) ![3, 0, 0] S1x512x1024.size inb_S4x512x1024_S1x512x1024_3_0_0) f) : sProp 𝕄) := by
  rw [stripes_split c sc6 (Memref.isWhole_whole _) partS4x512x1024 partS4x512x1024_disjoint partS4x512x1024_cover f,
    bigSep_univ_eq_bigSepL [(0 : Fin 4), (1 : Fin 4), (2 : Fin 4), (3 : Fin 4)] (by decide) (by decide)]
  rfl

/-- The 4 parts of `sc6` joined. -/
theorem join_sc6 (c : Dev nD) (f₀ : CBuf (F := F) c sc6) :
    iprop((∃ f : CBuf (F := F) c sc6, ptR c sc6 (Rect.unit (s := S4x512x1024) ![0, 0, 0] S1x512x1024.size inb_S4x512x1024_S1x512x1024_0_0_0) f) ∗ (∃ f : CBuf (F := F) c sc6, ptR c sc6 (Rect.unit (s := S4x512x1024) ![1, 0, 0] S1x512x1024.size inb_S4x512x1024_S1x512x1024_1_0_0) f) ∗ (∃ f : CBuf (F := F) c sc6, ptR c sc6 (Rect.unit (s := S4x512x1024) ![2, 0, 0] S1x512x1024.size inb_S4x512x1024_S1x512x1024_2_0_0) f) ∗ (∃ f : CBuf (F := F) c sc6, ptR c sc6 (Rect.unit (s := S4x512x1024) ![3, 0, 0] S1x512x1024.size inb_S4x512x1024_S1x512x1024_3_0_0) f)) ⊢ (iprop(∃ g : CBuf (F := F) c sc6, ptW c sc6 g) : sProp 𝕄) := by
  have h := stripes_join c sc6 (Memref.isWhole_whole _) partS4x512x1024 partS4x512x1024_disjoint partS4x512x1024_cover f₀
  rw [bigSep_univ_eq_bigSepL [(0 : Fin 4), (1 : Fin 4), (2 : Fin 4), (3 : Fin 4)] (by decide) (by decide)] at h
  exact h

/-- `sc8` cut into its 4 parts. -/
theorem split_sc8 (c : Dev nD) (f : CBuf (F := F) c sc8) :
    ptW c sc8 f = (iprop(ptR c sc8 (Rect.unit (s := S128x2048) ![0, 0] S128x512.size inb_S128x2048_S128x512_0_0) f ∗ ptR c sc8 (Rect.unit (s := S128x2048) ![0, 512] S128x512.size inb_S128x2048_S128x512_0_512) f ∗ ptR c sc8 (Rect.unit (s := S128x2048) ![0, 1024] S128x512.size inb_S128x2048_S128x512_0_1024) f ∗ ptR c sc8 (Rect.unit (s := S128x2048) ![0, 1536] S128x512.size inb_S128x2048_S128x512_0_1536) f) : sProp 𝕄) := by
  rw [stripes_split c sc8 (Memref.isWhole_whole _) partS128x2048 partS128x2048_disjoint partS128x2048_cover f,
    bigSep_univ_eq_bigSepL [(0 : Fin 4), (1 : Fin 4), (2 : Fin 4), (3 : Fin 4)] (by decide) (by decide)]
  rfl

/-- The 4 parts of `sc8` joined. -/
theorem join_sc8 (c : Dev nD) (f₀ : CBuf (F := F) c sc8) :
    iprop((∃ f : CBuf (F := F) c sc8, ptR c sc8 (Rect.unit (s := S128x2048) ![0, 0] S128x512.size inb_S128x2048_S128x512_0_0) f) ∗ (∃ f : CBuf (F := F) c sc8, ptR c sc8 (Rect.unit (s := S128x2048) ![0, 512] S128x512.size inb_S128x2048_S128x512_0_512) f) ∗ (∃ f : CBuf (F := F) c sc8, ptR c sc8 (Rect.unit (s := S128x2048) ![0, 1024] S128x512.size inb_S128x2048_S128x512_0_1024) f) ∗ (∃ f : CBuf (F := F) c sc8, ptR c sc8 (Rect.unit (s := S128x2048) ![0, 1536] S128x512.size inb_S128x2048_S128x512_0_1536) f)) ⊢ (iprop(∃ g : CBuf (F := F) c sc8, ptW c sc8 g) : sProp 𝕄) := by
  have h := stripes_join c sc8 (Memref.isWhole_whole _) partS128x2048 partS128x2048_disjoint partS128x2048_cover f₀
  rw [bigSep_univ_eq_bigSepL [(0 : Fin 4), (1 : Fin 4), (2 : Fin 4), (3 : Fin 4)] (by decide) (by decide)] at h
  exact h

/-- `hb7` cut into its 4 parts. -/
theorem split_hb7 (c : Dev nD) (f : CBuf (F := F) c hb7) :
    ptW c hb7 f = (iprop(ptR c hb7 (Rect.unit (s := S128x2048) ![0, 0] S128x512.size inb_S128x2048_S128x512_0_0) f ∗ ptR c hb7 (Rect.unit (s := S128x2048) ![0, 512] S128x512.size inb_S128x2048_S128x512_0_512) f ∗ ptR c hb7 (Rect.unit (s := S128x2048) ![0, 1024] S128x512.size inb_S128x2048_S128x512_0_1024) f ∗ ptR c hb7 (Rect.unit (s := S128x2048) ![0, 1536] S128x512.size inb_S128x2048_S128x512_0_1536) f) : sProp 𝕄) := by
  rw [stripes_split c hb7 (Memref.isWhole_whole _) partS128x2048 partS128x2048_disjoint partS128x2048_cover f,
    bigSep_univ_eq_bigSepL [(0 : Fin 4), (1 : Fin 4), (2 : Fin 4), (3 : Fin 4)] (by decide) (by decide)]
  rfl

/-- One block of columns just written holds any contents that agree with the write there. -/
theorem hb7_block (c : Dev nD) (r : Rect S128x2048) (w : r.shape.Idx → Elt F .f32) (f g : CBuf (F := F) c hb7)
    (h : ∀ x : r.shape.Idx, (g : S128x2048.Idx → Elt F .f32) (r.emb x) = w x) :
    (ptR c hb7 r (hb7.view.writes (Elt F) f [⟨r, w⟩]) : sProp 𝕄) = ptR c hb7 r g :=
  pointsTo_congr fun i hi => by
    obtain ⟨y, hy, rfl⟩ := Finset.mem_map.mp hi
    obtain ⟨x, rfl⟩ : ∃ x, r.emb x = y := r.exists_idx_of_mem hy
    have := View.read_writes_apply_eq_canon (Val := Elt F) hb7.view f (r.emb x) [⟨r, w⟩] ⟨_, List.mem_singleton_self _, hy⟩
    rw [View.canon_cons_emb] at this
    exact this.trans (h x).symm

/-- An element of one block of columns lies in no other. -/
theorem col_not_mem {a b : ℕ} (ia : ∀ i, ![0, a] i + S128x512.size i ≤ S128x2048.size i) (ib : ∀ i, ![0, b] i + S128x512.size i ≤ S128x2048.size i)
    (h : a + 512 ≤ b) (x : (Rect.unit (s := S128x2048) ![0, a] S128x512.size ia).shape.Idx) :
    (Rect.unit (s := S128x2048) ![0, a] S128x512.size ia).emb x ∉ (Rect.unit (s := S128x2048) ![0, b] S128x512.size ib).set := fun hm => by
  have h1 := (Rect.mem_set_unit.mp hm 1).1
  have h2 := (Rect.mem_set_unit.mp ((Rect.unit (s := S128x2048) ![0, a] S128x512.size ia).idx_mem x) 1).2
  have h3 : b < a + 512 := lt_of_le_of_lt h1 h2
  omega

/-- Column block 3 of the second result. -/
theorem pos_emb3 (o : Operands F) (x : (Rect.unit (s := S128x2048) ![0, 1536] S128x512.size inb_S128x2048_S128x512_0_1536).shape.Idx) : pos o ((Rect.unit (s := S128x2048) ![0, 1536] S128x512.size inb_S128x2048_S128x512_0_1536).emb x) = pos3 o x := by
  unfold pos posPieces
  rw [View.canon_cons_emb]
/-- Column block 2 of the second result. -/
theorem pos_emb2 (o : Operands F) (x : (Rect.unit (s := S128x2048) ![0, 1024] S128x512.size inb_S128x2048_S128x512_0_1024).shape.Idx) : pos o ((Rect.unit (s := S128x2048) ![0, 1024] S128x512.size inb_S128x2048_S128x512_0_1024).emb x) = pos2 o x := by
  have h3 : (Rect.unit (s := S128x2048) ![0, 1024] S128x512.size inb_S128x2048_S128x512_0_1024).emb x ∉ (Rect.unit (s := S128x2048) ![0, 1536] S128x512.size inb_S128x2048_S128x512_0_1536).set := col_not_mem (a := 1024) (b := 1536) inb_S128x2048_S128x512_0_1024 inb_S128x2048_S128x512_0_1536 (by omega) x
  unfold pos posPieces
  rw [View.canon_cons_of_not_mem (Val := Elt F) (e := .f32) ⟨(Rect.unit (s := S128x2048) ![0, 1536] S128x512.size inb_S128x2048_S128x512_0_1536), pos3 o⟩ _ h3, View.canon_cons_emb]
/-- Column block 1 of the second result. -/
theorem pos_emb1 (o : Operands F) (x : (Rect.unit (s := S128x2048) ![0, 512] S128x512.size inb_S128x2048_S128x512_0_512).shape.Idx) : pos o ((Rect.unit (s := S128x2048) ![0, 512] S128x512.size inb_S128x2048_S128x512_0_512).emb x) = pos1 o x := by
  have h3 : (Rect.unit (s := S128x2048) ![0, 512] S128x512.size inb_S128x2048_S128x512_0_512).emb x ∉ (Rect.unit (s := S128x2048) ![0, 1536] S128x512.size inb_S128x2048_S128x512_0_1536).set := col_not_mem (a := 512) (b := 1536) inb_S128x2048_S128x512_0_512 inb_S128x2048_S128x512_0_1536 (by omega) x
  have h2 : (Rect.unit (s := S128x2048) ![0, 512] S128x512.size inb_S128x2048_S128x512_0_512).emb x ∉ (Rect.unit (s := S128x2048) ![0, 1024] S128x512.size inb_S128x2048_S128x512_0_1024).set := col_not_mem (a := 512) (b := 1024) inb_S128x2048_S128x512_0_512 inb_S128x2048_S128x512_0_1024 (by omega) x
  unfold pos posPieces
  rw [View.canon_cons_of_not_mem (Val := Elt F) (e := .f32) ⟨(Rect.unit (s := S128x2048) ![0, 1536] S128x512.size inb_S128x2048_S128x512_0_1536), pos3 o⟩ _ h3, View.canon_cons_of_not_mem (Val := Elt F) (e := .f32) ⟨(Rect.unit (s := S128x2048) ![0, 1024] S128x512.size inb_S128x2048_S128x512_0_1024), pos2 o⟩ _ h2, View.canon_cons_emb]
/-- Column block 0 of the second result. -/
theorem pos_emb0 (o : Operands F) (x : (Rect.unit (s := S128x2048) ![0, 0] S128x512.size inb_S128x2048_S128x512_0_0).shape.Idx) : pos o ((Rect.unit (s := S128x2048) ![0, 0] S128x512.size inb_S128x2048_S128x512_0_0).emb x) = pos0 o x := by
  have h3 : (Rect.unit (s := S128x2048) ![0, 0] S128x512.size inb_S128x2048_S128x512_0_0).emb x ∉ (Rect.unit (s := S128x2048) ![0, 1536] S128x512.size inb_S128x2048_S128x512_0_1536).set := col_not_mem (a := 0) (b := 1536) inb_S128x2048_S128x512_0_0 inb_S128x2048_S128x512_0_1536 (by omega) x
  have h2 : (Rect.unit (s := S128x2048) ![0, 0] S128x512.size inb_S128x2048_S128x512_0_0).emb x ∉ (Rect.unit (s := S128x2048) ![0, 1024] S128x512.size inb_S128x2048_S128x512_0_1024).set := col_not_mem (a := 0) (b := 1024) inb_S128x2048_S128x512_0_0 inb_S128x2048_S128x512_0_1024 (by omega) x
  have h1 : (Rect.unit (s := S128x2048) ![0, 0] S128x512.size inb_S128x2048_S128x512_0_0).emb x ∉ (Rect.unit (s := S128x2048) ![0, 512] S128x512.size inb_S128x2048_S128x512_0_512).set := col_not_mem (a := 0) (b := 512) inb_S128x2048_S128x512_0_0 inb_S128x2048_S128x512_0_512 (by omega) x
  unfold pos posPieces
  rw [View.canon_cons_of_not_mem (Val := Elt F) (e := .f32) ⟨(Rect.unit (s := S128x2048) ![0, 1536] S128x512.size inb_S128x2048_S128x512_0_1536), pos3 o⟩ _ h3, View.canon_cons_of_not_mem (Val := Elt F) (e := .f32) ⟨(Rect.unit (s := S128x2048) ![0, 1024] S128x512.size inb_S128x2048_S128x512_0_1024), pos2 o⟩ _ h2, View.canon_cons_of_not_mem (Val := Elt F) (e := .f32) ⟨(Rect.unit (s := S128x2048) ![0, 512] S128x512.size inb_S128x2048_S128x512_0_512), pos1 o⟩ _ h1, View.canon_cons_emb]

/-- The four blocks of columns as the copies leave them are the second result whole. -/
theorem join_hb7 (c : Dev nD) (o : Operands F) (f : CBuf (F := F) c hb7) :
    (iprop(ptR c hb7 (Rect.unit (s := S128x2048) ![0, 0] S128x512.size inb_S128x2048_S128x512_0_0) (hb7.view.writes (Elt F) f [⟨(Rect.unit (s := S128x2048) ![0, 0] S128x512.size inb_S128x2048_S128x512_0_0), pos0 o⟩]) ∗ ptR c hb7 (Rect.unit (s := S128x2048) ![0, 512] S128x512.size inb_S128x2048_S128x512_0_512) (hb7.view.writes (Elt F) f [⟨(Rect.unit (s := S128x2048) ![0, 512] S128x512.size inb_S128x2048_S128x512_0_512), pos1 o⟩]) ∗ ptR c hb7 (Rect.unit (s := S128x2048) ![0, 1024] S128x512.size inb_S128x2048_S128x512_0_1024) (hb7.view.writes (Elt F) f [⟨(Rect.unit (s := S128x2048) ![0, 1024] S128x512.size inb_S128x2048_S128x512_0_1024), pos2 o⟩]) ∗ ptR c hb7 (Rect.unit (s := S128x2048) ![0, 1536] S128x512.size inb_S128x2048_S128x512_0_1536) (hb7.view.writes (Elt F) f [⟨(Rect.unit (s := S128x2048) ![0, 1536] S128x512.size inb_S128x2048_S128x512_0_1536), pos3 o⟩])) : sProp 𝕄)
      = ptW c hb7 (pos o) := by
  rw [split_hb7 c (pos o), hb7_block c _ _ f (pos o) (pos_emb0 o), hb7_block c _ _ f (pos o) (pos_emb1 o),
    hb7_block c _ _ f (pos o) (pos_emb2 o), hb7_block c _ _ f (pos o) (pos_emb3 o)]

end Cert.KernelIdeal.Hand

end
-- ==== Proof.KI.Frame.lean ====
module

public import proofs.«01_k».proof.Proof.KI.Split
public import proofs.«01_k».proof.Proof.Gen.KernelIdeal.Frame
public import Idealize.ShloMosaic.Lib.Pipeline.ValueKit.Geometry

/-! # The launch

The program runs from any memory: the operations before the kernel, then the kernel's one point. What the two
results hold at the end is stated in terms of what the kernel is given. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

/-- The kernel's own semaphores. -/
abbrev osem0 : Fin 24 → SemLoc sig := ![SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35]
/-- They are distinct, and none is the pipeline's. -/
theorem ownSemFacts0 : Pipeline.OwnSemFacts spec0 osem0 := by decide

/-- The buffers the kernel's own copies read and write. -/
def R0 : Finset (Ref sig .tc) := {main_arg0, main_call0_v0, main_arg2, main_arg6, main_arg10, main_arg14, main_arg16, main_v0_1}
/-- The buffers the kernel holds by itself are no window's. -/
theorem R0_sub : R0 ⊆ Pipeline.restRefs sig spec0 := by decide

/-- What the kernel holds besides the pipeline's buffers, item by item. -/
theorem ends_eq (c : Dev nD) (W : (b : Ref sig .tc) → Buf (Elt F) ((c.tc : Thread nD τ).loc b)) :
    (Pipeline.Ends spec0 osem0 R0 c W : sProp 𝕄)
      = iprop(iprop(ptW c hb0 (W main_arg0) ∗ ptW c hb1 (W main_call0_v0) ∗ ptW c hb2 (W main_arg2) ∗ ptW c hb3 (W main_arg6) ∗ ptW c hb4 (W main_arg10) ∗ ptW c hb5 (W main_arg14) ∗ ptW c hb6 (W main_arg16) ∗ ptW c hb7 (W main_v0_1))
          ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
          ∗ iprop((∃ f : CBuf (F := F) c sc0, ptW c sc0 f) ∗ (∃ f : CBuf (F := F) c sc1, ptW c sc1 f) ∗ (∃ f : CBuf (F := F) c sc2, ptW c sc2 f) ∗ (∃ f : CBuf (F := F) c sc3, ptW c sc3 f) ∗ (∃ f : CBuf (F := F) c sc4, ptW c sc4 f) ∗ (∃ f : CBuf (F := F) c sc5, ptW c sc5 f) ∗ (∃ f : CBuf (F := F) c sc6, ptW c sc6 f) ∗ (∃ f : CBuf (F := F) c sc7, ptW c sc7 f) ∗ (∃ f : CBuf (F := F) c sc8, ptW c sc8 f))
          ∗ ∃ r, prngReg c r) := by
  unfold Pipeline.Ends Pipeline.routed
  rw [BI.bigSep_eq_bigSepL_of_eq [main_arg0, main_call0_v0, main_arg2, main_arg6, main_arg10, main_arg14, main_arg16, main_v0_1] (by decide) (by decide),
    Pipeline.ownSems0_eq_of_list c osem0 [0, 1, 2, 3, 4, 5, 6, 7, 8, 9, 10, 11, 12, 13, 14, 15, 16, 17, 18, 19, 20, 21, 22, 23] (by decide) (by decide), scopedRest0_eq]
  rfl

variable (m : (ℓ : Loc nD τ sig) → Buf (Elt F) ℓ) (ρ : Dev nD → PrngReg)

/-- What the kernel is given on core `c`. -/
def opsAt (c : Dev nD) : Operands F :=
  ⟨V m c main_arg0, V m c main_call0_v0, V m c main_arg2, V m c main_arg6, V m c main_arg10, V m c main_arg14, V m c main_arg16,
    iblk m c 0 t0_0, iblk m c 1 t0_0, iblk m c 2 t0_0, iblk m c 3 t0_0, iblk m c 4 t0_0, iblk m c 5 t0_0, iblk m c 6 t0_0, iblk m c 7 t0_0, iblk m c 8 t0_0, iblk m c 9 t0_0, iblk m c 10 t0_0⟩

/-- The buffers of `R0` after the kernel: the second result is written, the others are as before. -/
def Y (c : Dev nD) : (b : Ref sig .tc) → Buf (Elt F) ((c.tc : Thread nD τ).loc b) :=
  Function.update (V m c) main_v0_1 (pos (opsAt m c))

/-- The invariant before and after the one point. -/
def Phi (c : Dev nD) : ℕ → sProp 𝕄
  | 0 => Pipeline.Ends spec0 osem0 R0 c (V m c)
  | _ + 1 => Pipeline.Ends spec0 osem0 R0 c (Y m c)

/-- The pipeline's proof data: each input keeps its block, the first result's buffer ends at its value. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => par (opsAt m c)
  Φ t := Phi m c t.val
  q _ := fullShare
  owed _ := 0

/-- A window's array at the start is what the launch holds. -/
theorem A_eq (c : Dev nD) (w : Fin cfg0.W) : (dats m 0 c).A w = V m c (Pipeline.arrRef spec0 w) := by
  dsimp only [dats]
/-- Before the body, window 0 holds its block of the input. -/
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; rfl) t d).trans
    (by unfold Dat.fetched Dat.blockOf iblk; dsimp only [dats]; rfl)
/-- Before the body, window 1 holds its block of the input. -/
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; rfl) t d).trans
    (by unfold Dat.fetched Dat.blockOf iblk; dsimp only [dats]; rfl)
/-- Before the body, window 2 holds its block of the input. -/
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; rfl) t d).trans
    (by unfold Dat.fetched Dat.blockOf iblk; dsimp only [dats]; rfl)
/-- Before the body, window 3 holds its block of the input. -/
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; rfl) t d).trans
    (by unfold Dat.fetched Dat.blockOf iblk; dsimp only [dats]; rfl)
/-- Before the body, window 4 holds its block of the input. -/
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; rfl) t d).trans
    (by unfold Dat.fetched Dat.blockOf iblk; dsimp only [dats]; rfl)
/-- Before the body, window 5 holds its block of the input. -/
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; rfl) t d).trans
    (by unfold Dat.fetched Dat.blockOf iblk; dsimp only [dats]; rfl)
/-- Before the body, window 6 holds its block of the input. -/
theorem before_6 (c : Dev nD) (t : Fin cfg0.N) (d) : (dats m 0 c).before 6 t d = iblk m c 6 t :=
  ((dats m 0 c).before_in_eq_fetched 6 rfl (fun _ => rfl) (fun _ _ _ => rfl) (fun t => by dsimp only [dats]; rfl) t d).trans
    (by unfold Dat.fetched Dat.blockOf iblk; dsimp only [dats]; rfl)
/-- Before the body, window 7 holds its block of the input. -/
theorem before_7 (c : Dev nD) (t : Fin cfg0.N) (d) : (dats m 0 c).before 7 t d = iblk m c 7 t :=
  ((dats m 0 c).before_in_eq_fetched 7 rfl (fun _ => rfl) (fun _ _ _ => rfl) (fun t => by dsimp only [dats]; rfl) t d).trans
    (by unfold Dat.fetched Dat.blockOf iblk; dsimp only [dats]; rfl)
/-- Before the body, window 8 holds its block of the input. -/
theorem before_8 (c : Dev nD) (t : Fin cfg0.N) (d) : (dats m 0 c).before 8 t d = iblk m c 8 t :=
  ((dats m 0 c).before_in_eq_fetched 8 rfl (fun _ => rfl) (fun _ _ _ => rfl) (fun t => by dsimp only [dats]; rfl) t d).trans
    (by unfold Dat.fetched Dat.blockOf iblk; dsimp only [dats]; rfl)
/-- Before the body, window 9 holds its block of the input. -/
theorem before_9 (c : Dev nD) (t : Fin cfg0.N) (d) : (dats m 0 c).before 9 t d = iblk m c 9 t :=
  ((dats m 0 c).before_in_eq_fetched 9 rfl (fun _ => rfl) (fun _ _ _ => rfl) (fun t => by dsimp only [dats]; rfl) t d).trans
    (by unfold Dat.fetched Dat.blockOf iblk; dsimp only [dats]; rfl)
/-- Before the body, window 10 holds its block of the input. -/
theorem before_10 (c : Dev nD) (t : Fin cfg0.N) (d) : (dats m 0 c).before 10 t d = iblk m c 10 t :=
  ((dats m 0 c).before_in_eq_fetched 10 rfl (fun _ => rfl) (fun _ _ _ => rfl) (fun t => by dsimp only [dats]; rfl) t d).trans
    (by unfold Dat.fetched Dat.blockOf iblk; dsimp only [dats]; rfl)

/-- What the point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

/-- What holds of a value with its proof holds of the value it equals. -/
theorem holds_of_val {α : Type} {P : α → Prop} {x : {a // P a}} {b : α} (h : x.1 = b) : P b := h ▸ x.2

/-- Before the point, the kernel holds its own buffers and semaphores as the launch leaves them. -/
theorem Phi_first (c : Dev nD) (t : Fin cfg0.N) : (dats m 0 c).Φ t.castSucc = Pipeline.Ends spec0 osem0 R0 c (V m c) := by
  obtain rfl : t = t0_0 := fin_N0 t
  rfl
/-- After the point, it holds them with the second result written. -/
theorem Phi_last (c : Dev nD) (t : Fin cfg0.N) : (dats m 0 c).Φ t.succ = Pipeline.Ends spec0 osem0 R0 c (Y m c) := by
  obtain rfl : t = t0_0 := fin_N0 t
  rfl

/-- A piece that fills a buffer is what the buffer then holds. -/
theorem read_par (M : Memref sig .tc .vmem S128x32 .f32) (f : M.view.ty.Contents (Elt F)) (v : Vec F S128x32 .f32) :
    M.view.read (Elt F) (M.view.writes (Elt F) f [⟨Rect.unit (s := S128x32) ![0, 0] S128x32.size inb_S128x32_S128x32_0_0, v⟩]) = v :=
  (View.read_writes_eq_canon M.view f _ (View.cover_of_tiledL _ S128x32.size (by sl_kernel_rfl))).trans
    (View.canon_unit_zero (by decide) _ _)

/-- A buffer other than the second result's is as before. -/
theorem Y_ne (c : Dev nD) (b : Ref sig .tc) (h : b ≠ main_v0_1) : Y m c b = V m c b := Function.update_of_ne h _ _
/-- The second result's buffer holds the second result. -/
theorem Y_pos (c : Dev nD) : Y m c main_v0_1 = pos (opsAt m c) := Function.update_self _ _ _

set_option maxHeartbeats 4000000 in
set_option maxRecDepth 65536 in
/-- The one point: the kernel's body from what the launch hands it to what the launch takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, ends_eq, ends_eq]
  unfold Dat.owesAt Pipeline.owesWithin
  rw [show (dats m 0 c).owed t.castSucc = 0 from rfl, show (dats m 0 c).owed t.succ = 0 from rfl]
  unfold owns
  iintro ⟨⟨⟨Hh0, Hh1, Hh2, Hh3, Hh4, Hh5, Hh6, Hh7⟩, ⟨Hq12, Hq13, Hq14, Hq15, Hq16, Hq17, Hq18, Hq19, Hq20, Hq21, Hq22, Hq23, Hq24, Hq25, Hq26, Hq27, Hq28, Hq29, Hq30, Hq31, Hq32, Hq33, Hq34, Hq35⟩, ⟨⟨%e0, Hs0⟩, ⟨%e1, Hs1⟩, ⟨%e2, Hs2⟩, ⟨%e3, Hs3⟩, ⟨%e4, Hs4⟩, ⟨%e5, Hs5⟩, ⟨%e6, Hs6⟩, ⟨%e7, Hs7⟩, ⟨%e8, Hs8⟩⟩, Hg⟩, ⟨%W, -, HW⟩, ⟨%d0, %f0, %hf0, Hw0⟩, ⟨%d1, %f1, %hf1, Hw1⟩, ⟨%d2, %f2, %hf2, Hw2⟩, ⟨%d3, %f3, %hf3, Hw3⟩, ⟨%d4, %f4, %hf4, Hw4⟩, ⟨%d5, %f5, %hf5, Hw5⟩, ⟨%d6, %f6, %hf6, Hw6⟩, ⟨%d7, %f7, %hf7, Hw7⟩, ⟨%d8, %f8, %hf8, Hw8⟩, ⟨%d9, %f9, %hf9, Hw9⟩, ⟨%d10, %f10, %hf10, Hw10⟩, ⟨%d11, %f11, %hf11, Hw11⟩⟩
  icases (BIBase.Entails.of_eq (split_sc2 c e2)) $$ Hs2 with ⟨Hs2_0, Hs2_1, Hs2_2, Hs2_3, Hs2_4, Hs2_5, Hs2_6, Hs2_7⟩
  icases (BIBase.Entails.of_eq (split_sc3 c e3)) $$ Hs3 with ⟨Hs3_0, Hs3_1⟩
  icases (BIBase.Entails.of_eq (split_sc5 c e5)) $$ Hs5 with ⟨Hs5_0, Hs5_1⟩
  icases (BIBase.Entails.of_eq (split_sc6 c e6)) $$ Hs6 with ⟨Hs6_0, Hs6_1, Hs6_2, Hs6_3⟩
  icases (BIBase.Entails.of_eq (split_sc8 c e8)) $$ Hs8 with ⟨Hs8_0, Hs8_1, Hs8_2, Hs8_3⟩
  icases (BIBase.Entails.of_eq (split_hb7 c (V m c main_v0_1))) $$ Hh7 with ⟨Hh7_0, Hh7_1, Hh7_2, Hh7_3⟩
  rw [before_0] at hf0
  rw [before_1] at hf1
  rw [before_2] at hf2
  rw [before_3] at hf3
  rw [before_4] at hf4
  rw [before_5] at hf5
  rw [before_6] at hf6
  rw [before_7] at hf7
  rw [before_8] at hf8
  rw [before_9] at hf9
  rw [before_10] at hf10
  have ho : opsOf c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) f0 f1 f2 f3 f4 f5 f6 f7 f8 f9 f10 (V m c main_arg0) (V m c main_call0_v0) (V m c main_arg2) (V m c main_arg6) (V m c main_arg10) (V m c main_arg14) (V m c main_arg16) = opsAt m c := by
    obtain rfl : t = t0_0 := fin_N0 t
    unfold opsOf opsAt
    rw [hf0, hf1, hf2, hf3, hf4, hf5, hf6, hf7, hf8, hf9, hf10]
    rfl
  have hrun := holds_of_val (run0_leaves c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) f0 f1 f2 f3 f4 f5 f6 f7 f8 f9 f10 f11 e0 e1 e2 e2 e2 e2 e2 e2 e2 e2 e3 e3 e4 e5 e5 e6 e6 e6 e6 e7 e8 e8 e8 e8 (V m c main_arg0) (V m c main_call0_v0) (V m c main_arg2) (V m c main_arg6) (V m c main_arg10) (V m c main_arg14) (V m c main_arg16) (V m c main_v0_1) (V m c main_v0_1) (V m c main_v0_1) (V m c main_v0_1))
  rw [ho] at hrun
  unfold leaves at hrun
  iapply (hrun W _)
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hs0]; · iexact Hs0
  isplitl [Hs1]; · iexact Hs1
  isplitl [Hs2_0]; · iexact Hs2_0
  isplitl [Hs2_1]; · iexact Hs2_1
  isplitl [Hs2_2]; · iexact Hs2_2
  isplitl [Hs2_3]; · iexact Hs2_3
  isplitl [Hs2_4]; · iexact Hs2_4
  isplitl [Hs2_5]; · iexact Hs2_5
  isplitl [Hs2_6]; · iexact Hs2_6
  isplitl [Hs2_7]; · iexact Hs2_7
  isplitl [Hs3_0]; · iexact Hs3_0
  isplitl [Hs3_1]; · iexact Hs3_1
  isplitl [Hs4]; · iexact Hs4
  isplitl [Hs5_0]; · iexact Hs5_0
  isplitl [Hs5_1]; · iexact Hs5_1
  isplitl [Hs6_0]; · iexact Hs6_0
  isplitl [Hs6_1]; · iexact Hs6_1
  isplitl [Hs6_2]; · iexact Hs6_2
  isplitl [Hs6_3]; · iexact Hs6_3
  isplitl [Hs7]; · iexact Hs7
  isplitl [Hs8_0]; · iexact Hs8_0
  isplitl [Hs8_1]; · iexact Hs8_1
  isplitl [Hs8_2]; · iexact Hs8_2
  isplitl [Hs8_3]; · iexact Hs8_3
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7_0]; · iexact Hh7_0
  isplitl [Hh7_1]; · iexact Hh7_1
  isplitl [Hh7_2]; · iexact Hh7_2
  isplitl [Hh7_3]; · iexact Hh7_3
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq32]; · iexact Hq32
  isplitl [Hq33]; · iexact Hq33
  isplitl [Hq34]; · iexact Hq34
  isplitl [Hq35]; · iexact Hq35
  isplitl [HW]; · iexact HW
  iintro ⟨Hw0, Hw1, Hw2, Hw3, Hw4, Hw5, Hw6, Hw7, Hw8, Hw9, Hw10, Hw11, Hs0, Hs1, Hs2_0, Hs2_1, Hs2_2, Hs2_3, Hs2_4, Hs2_5, Hs2_6, Hs2_7, Hs3_0, Hs3_1, Hs4, Hs5_0, Hs5_1, Hs6_0, Hs6_1, Hs6_2, Hs6_3, Hs7, Hs8_0, Hs8_1, Hs8_2, Hs8_3, Hh0, Hh1, Hh2, Hh3, Hh4, Hh5, Hh6, Hh7_0, Hh7_1, Hh7_2, Hh7_3, Hq12, Hq13, Hq14, Hq15, Hq16, Hq17, Hq18, Hq19, Hq20, Hq21, Hq22, Hq23, Hq24, Hq25, Hq26, Hq27, Hq28, Hq29, Hq30, Hq32, Hq33, Hq34, Hq35, ⟨%W', HW'⟩⟩
  isplitl [Hh0 Hh1 Hh2 Hh3 Hh4 Hh5 Hh6 Hh7_0 Hh7_1 Hh7_2 Hh7_3 Hq12 Hq13 Hq14 Hq15 Hq16 Hq17 Hq18 Hq19 Hq20 Hq21 Hq22 Hq23 Hq24 Hq25 Hq26 Hq27 Hq28 Hq29 Hq30 Hq31 Hq32 Hq33 Hq34 Hq35 Hs0 Hs1 Hs2_0 Hs2_1 Hs2_2 Hs2_3 Hs2_4 Hs2_5 Hs2_6 Hs2_7 Hs3_0 Hs3_1 Hs4 Hs5_0 Hs5_1 Hs6_0 Hs6_1 Hs6_2 Hs6_3 Hs7 Hs8_0 Hs8_1 Hs8_2 Hs8_3 Hg]
  · isplitl [Hh0 Hh1 Hh2 Hh3 Hh4 Hh5 Hh6 Hh7_0 Hh7_1 Hh7_2 Hh7_3]
    · rw [Y_ne m c main_arg0 (by decide), Y_ne m c main_call0_v0 (by decide), Y_ne m c main_arg2 (by decide), Y_ne m c main_arg6 (by decide), Y_ne m c main_arg10 (by decide), Y_ne m c main_arg14 (by decide), Y_ne m c main_arg16 (by decide), Y_pos, ← join_hb7 c (opsAt m c) (V m c main_v0_1)]
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7_0]; · iexact Hh7_0
      isplitl [Hh7_1]; · iexact Hh7_1
      isplitl [Hh7_2]; · iexact Hh7_2
      iexact Hh7_3
    isplitl [Hq12 Hq13 Hq14 Hq15 Hq16 Hq17 Hq18 Hq19 Hq20 Hq21 Hq22 Hq23 Hq24 Hq25 Hq26 Hq27 Hq28 Hq29 Hq30 Hq31 Hq32 Hq33 Hq34 Hq35]
    · isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      iexact Hq35
    isplitl [Hs0 Hs1 Hs2_0 Hs2_1 Hs2_2 Hs2_3 Hs2_4 Hs2_5 Hs2_6 Hs2_7 Hs3_0 Hs3_1 Hs4 Hs5_0 Hs5_1 Hs6_0 Hs6_1 Hs6_2 Hs6_3 Hs7 Hs8_0 Hs8_1 Hs8_2 Hs8_3]
    · isplitl [Hs0]
      · iexact Hs0
      isplitl [Hs1]
      · iexact Hs1
      isplitl [Hs2_0 Hs2_1 Hs2_2 Hs2_3 Hs2_4 Hs2_5 Hs2_6 Hs2_7]
      · iapply (join_sc2 c e2)
        isplitl [Hs2_0]; · iexact Hs2_0
        isplitl [Hs2_1]; · iexact Hs2_1
        isplitl [Hs2_2]; · iexact Hs2_2
        isplitl [Hs2_3]; · iexact Hs2_3
        isplitl [Hs2_4]; · iexact Hs2_4
        isplitl [Hs2_5]; · iexact Hs2_5
        isplitl [Hs2_6]; · iexact Hs2_6
        iexact Hs2_7
      isplitl [Hs3_0 Hs3_1]
      · iapply (join_sc3 c e3)
        isplitl [Hs3_0]; · iexact Hs3_0
        iexact Hs3_1
      isplitl [Hs4]
      · iexact Hs4
      isplitl [Hs5_0 Hs5_1]
      · iapply (join_sc5 c e5)
        isplitl [Hs5_0]; · iexact Hs5_0
        iexact Hs5_1
      isplitl [Hs6_0 Hs6_1 Hs6_2 Hs6_3]
      · iapply (join_sc6 c e6)
        isplitl [Hs6_0]; · iexact Hs6_0
        isplitl [Hs6_1]; · iexact Hs6_1
        isplitl [Hs6_2]; · iexact Hs6_2
        iexact Hs6_3
      isplitl [Hs7]
      · iexact Hs7
      iapply (join_sc8 c e8)
      isplitl [Hs8_0]; · iexact Hs8_0
      isplitl [Hs8_1]; · iexact Hs8_1
      isplitl [Hs8_2]; · iexact Hs8_2
      iexact Hs8_3
    iexact Hg
  isplitl [HW']
  · iexists W'; isplitr; · ipureintro; exact fun _ _ => Or.inl trivial
    iexact HW'
  isplitl [Hw0]
  · iexists _; isplitr; swap; · iexact Hw0
    ipureintro; exact hf0
  isplitl [Hw1]
  · iexists _; isplitr; swap; · iexact Hw1
    ipureintro; exact hf1
  isplitl [Hw2]
  · iexists _; isplitr; swap; · iexact Hw2
    ipureintro; exact hf2
  isplitl [Hw3]
  · iexists _; isplitr; swap; · iexact Hw3
    ipureintro; exact hf3
  isplitl [Hw4]
  · iexists _; isplitr; swap; · iexact Hw4
    ipureintro; exact hf4
  isplitl [Hw5]
  · iexists _; isplitr; swap; · iexact Hw5
    ipureintro; exact hf5
  isplitl [Hw6]
  · iexists _; isplitr; swap; · iexact Hw6
    ipureintro; exact hf6
  isplitl [Hw7]
  · iexists _; isplitr; swap; · iexact Hw7
    ipureintro; exact hf7
  isplitl [Hw8]
  · iexists _; isplitr; swap; · iexact Hw8
    ipureintro; exact hf8
  isplitl [Hw9]
  · iexists _; isplitr; swap; · iexact Hw9
    ipureintro; exact hf9
  isplitl [Hw10]
  · iexists _; isplitr; swap; · iexact Hw10
    ipureintro; exact hf10
  iexists _; isplitr; swap; · iexact Hw11
  ipureintro; exact read_par _ _ _

/-- The body that the launch calls at a point is the body at that point. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The operations before the kernel, then the kernel. -/
theorem hmain_uc : Pipeline.HMain (Ix := Unit) (Name := ℕ) (U := UC sig nD τ) (Lvl := ℕ) cfgs 0 defs₀ Variants.none m (main (F := F)) (V m) :=
  Pipeline.hmain_prefix cfgs 0 defs₀ Variants.none m main hostOps0 hostOps0_sub hostOps0_fresh main_chain

/-- The invariant after the last point. -/
theorem Phi_end (c : Dev nD) : (dats m 0 c).Φ (Fin.last cfg0.N) = Pipeline.Ends spec0 osem0 R0 c (Y m c) := Phi_last m c t0_0

set_option backward.isDefEq.respectTransparency.types false in
/-- Every execution ends, with the buffers as the pipeline and the kernel leave them and every counter at zero. -/
theorem run_routed : θ_run defs (onTc (τ := τ) (main (F := F))) (s₀ m ρ)
    (fun r => Pipeline.RoutedPost cfgs (dats m) 0 R0 (V m) (Y m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain_uc m) (hA := A_eq m) (R := R0) (hR := R0_sub) (Y := Y m)
    (hin := fun _ => .rfl) (hout := fun c => BIBase.Entails.of_eq (Phi_end m c)) (hQ' := fun _ h => h)

/-- The first result's array after the run. -/
theorem final_par (c : Dev nD) : (dats m 0 c).arrAt 11 cfg0.N = par (opsAt m c) :=
  (dats m 0 c).arrAt_eq_of_after_last 11 t0_0 (by decide +kernel) (par (opsAt m c)) (fun _ => rfl)

set_option maxHeartbeats 1600000 in
/-- Every execution ends, the two results at their values, the arguments unchanged and every counter at zero. -/
theorem run_main : θ_run defs (onTc (τ := τ) (main (F := F))) ⟨m, fun _ => 0, ρ⟩ (fun r => (∀ c : Dev nD,
      r.2.mem ((c.tc : Thread nD τ).loc main_v0_0) = par (opsAt m c)
      ∧ r.2.mem ((c.tc : Thread nD τ).loc main_v0_1) = pos (opsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨((h.1 c).1 11).trans (final_par m c),
      ((h.1 c).2.1 main_v0_1 (by decide)).trans (Y_pos m c),
      ((h.1 c).2.1 main_arg0 (by decide)).trans ((Y_ne m c main_arg0 (by decide)).trans (V_main_arg0 m c)),
      ((h.1 c).2.2 main_arg1 (by decide)).trans (V_main_arg1 m c),
      ((h.1 c).2.1 main_arg2 (by decide)).trans ((Y_ne m c main_arg2 (by decide)).trans (V_main_arg2 m c)),
      ((h.1 c).2.2 main_arg3 (by decide)).trans (V_main_arg3 m c),
      ((h.1 c).2.2 main_arg4 (by decide)).trans (V_main_arg4 m c),
      ((h.1 c).2.2 main_arg5 (by decide)).trans (V_main_arg5 m c),
      ((h.1 c).2.1 main_arg6 (by decide)).trans ((Y_ne m c main_arg6 (by decide)).trans (V_main_arg6 m c)),
      ((h.1 c).2.2 main_arg7 (by decide)).trans (V_main_arg7 m c),
      ((h.1 c).2.2 main_arg8 (by decide)).trans (V_main_arg8 m c),
      ((h.1 c).2.2 main_arg9 (by decide)).trans (V_main_arg9 m c),
      ((h.1 c).2.1 main_arg10 (by decide)).trans ((Y_ne m c main_arg10 (by decide)).trans (V_main_arg10 m c)),
      ((h.1 c).2.2 main_arg11 (by decide)).trans (V_main_arg11 m c),
      ((h.1 c).1 7).trans (((dats m 0 c).arrAt_in 7 rfl _).trans ((A_eq m c 7).trans (V_main_arg12 m c))),
      ((h.1 c).2.2 main_arg13 (by decide)).trans (V_main_arg13 m c),
      ((h.1 c).2.1 main_arg14 (by decide)).trans ((Y_ne m c main_arg14 (by decide)).trans (V_main_arg14 m c)),
      ((h.1 c).2.2 main_arg15 (by decide)).trans (V_main_arg15 m c),
      ((h.1 c).2.1 main_arg16 (by decide)).trans ((Y_ne m c main_arg16 (by decide)).trans (V_main_arg16 m c)),
      ((h.1 c).2.2 main_arg17 (by decide)).trans (V_main_arg17 m c)⟩, h.2⟩) (run_routed m ρ)

end Cert.KernelIdeal.Hand

end
-- ==== Proof.Net.lean ====
/-
  The network, entry by entry, over the extended reals.

  A dense layer, the rectifier and the normalisation of a row, each as a function of row and column. The normalisation
  is written twice, with the reciprocal square root and with the square root and a division, and the two are equal at
  every extended real, because the mean of squares is never negative and the number added to it is positive.
-/
module

public import Idealize.ShloMosaic.PureOps.Ideal
public import Idealize.ShloMosaic.Lib.Pointwise

@[expose] public section

noncomputable section

namespace Cert.Net

open Idealize.ShloMosaic

variable {M N K : ℕ}

/-- A dense layer: rows against the rows of the weight, plus the bias. -/
def dense (x : Fin M → Fin K → EReal) (w : Fin N → Fin K → EReal) (b : Fin N → EReal) (r : Fin M) (c : Fin N) : EReal :=
  (∑ k, x r k * w c k) + b c

/-- The rectifier. -/
def relu (x : Fin M → Fin N → EReal) (r : Fin M) (c : Fin N) : EReal := max (x r c) 0

/-- The number of features in a row, as the programs spell it. -/
def len : EReal := Ideal.ofBits .f32 0x44800000#32

/-- The number added to the variance, as the programs spell it. -/
def eps : EReal := Ideal.ofBits .f32 0x3727C5AC#32

/-- A row less its mean. -/
def cen (x : Fin M → Fin N → EReal) (r : Fin M) (c : Fin N) : EReal := x r c - Ideal.div (∑ k, x r k) len

/-- The variance of a row. -/
def var (x : Fin M → Fin N → EReal) (r : Fin M) : EReal := Ideal.div (∑ k, cen x r k * cen x r k) len

/-- The normalisation with the reciprocal square root. -/
def norm (x : Fin M → Fin N → EReal) (g be : Fin N → EReal) (r : Fin M) (c : Fin N) : EReal :=
  cen x r c * Ideal.rsqrt (var x r + eps) * g c + be c

/-- The normalisation with the square root and a division. -/
def normDiv (x : Fin M → Fin N → EReal) (g be : Fin N → EReal) (r : Fin M) (c : Fin N) : EReal :=
  Ideal.div (cen x r c) (Ideal.sqrt (var x r + eps)) * g c + be c

/-- A square is not negative. -/
theorem mul_self_nonneg (a : EReal) : 0 ≤ a * a := by
  rcases le_total 0 a with h | h
  · exact mul_nonneg h h
  · exact EReal.mul_nonneg_iff.mpr (Or.inr ⟨h, h⟩)

/-- The row length is a positive real. -/
theorem len_coe : len = ((1024 : ℝ) : EReal) := by
  unfold len
  simp [Ideal.ofBits, Ideal.ieee, -EReal.coe_mul]; norm_num

/-- The row length is positive. -/
theorem len_pos : 0 < len := by
  rw [len_coe]; exact_mod_cast (by norm_num : (0 : ℝ) < 1024)

/-- The number added to the variance is a positive real. -/
theorem eps_coe : ∃ e : ℝ, 0 < e ∧ eps = (e : EReal) := by
  refine ⟨_, ?_, show eps = (((10995116 : ℝ) * 2 ^ (-40 : ℤ) : ℝ) : EReal) from ?_⟩
  · positivity
  · unfold eps
    simp [Ideal.ofBits, Ideal.ieee, -EReal.coe_mul]

/-- The variance is not negative. -/
theorem var_nonneg (x : Fin M → Fin N → EReal) (r : Fin M) : 0 ≤ var x r := by
  unfold var
  rw [len_coe]
  have h : 0 ≤ ∑ k, cen x r k * cen x r k := Finset.sum_nonneg fun k _ => mul_self_nonneg _
  rw [Ideal.div_coe (by norm_num)]
  exact mul_nonneg h (by exact_mod_cast (by norm_num : (0 : ℝ) ≤ 1 / 1024))

/-- Dividing by the root of a positive number is multiplying by its reciprocal root. -/
theorem div_sqrt (a v : EReal) (hv : 0 < v) : Ideal.div a (Ideal.sqrt v) = a * Ideal.rsqrt v := by
  induction v with
  | bot => simp at hv
  | top => simp [Ideal.div]
  | coe v =>
    have h : 0 < v := by exact_mod_cast hv
    have hs : Real.sqrt v ≠ 0 := (Real.sqrt_pos.mpr h).ne'
    rw [Ideal.sqrt_coe, Ideal.rsqrt_coe, if_neg (not_lt.mpr h.le), if_neg (not_lt.mpr h.le), if_neg h.ne', Ideal.div_coe hs, one_div]

/-- The two normalisations agree. -/
theorem normDiv_eq (x : Fin M → Fin N → EReal) (g be : Fin N → EReal) : normDiv x g be = norm x g be := by
  funext r c
  obtain ⟨e, he, h⟩ := eps_coe
  unfold normDiv norm
  rw [div_sqrt]
  rw [h]
  refine lt_of_lt_of_le (show (0 : EReal) < (e : EReal) by exact_mod_cast he) ?_
  exact le_add_of_nonneg_left (var_nonneg x r)

/-- The weights and the input, as functions of row and column. -/
structure Params where
  x : Fin 128 → Fin 4096 → EReal
  w1 : Fin 1024 → Fin 4096 → EReal
  b1 : Fin 1024 → EReal
  g1 : Fin 1024 → EReal
  be1 : Fin 1024 → EReal
  w2 : Fin 1024 → Fin 1024 → EReal
  b2 : Fin 1024 → EReal
  g2 : Fin 1024 → EReal
  be2 : Fin 1024 → EReal
  wp1 : Fin 512 → Fin 1024 → EReal
  bp1 : Fin 512 → EReal
  wp2 : Fin 32 → Fin 512 → EReal
  bp2 : Fin 32 → EReal
  wq1 : Fin 1024 → Fin 1024 → EReal
  bq1 : Fin 1024 → EReal
  wq2 : Fin 2048 → Fin 1024 → EReal
  bq2 : Fin 2048 → EReal

variable (p : Params)

/-- The features after the first layer. -/
def feat1 : Fin 128 → Fin 1024 → EReal := norm (relu (dense p.x p.w1 p.b1)) p.g1 p.be1

/-- The features after the second layer. -/
def feat : Fin 128 → Fin 1024 → EReal := norm (relu (dense (feat1 p) p.w2 p.b2)) p.g2 p.be2

/-- The scores of the first head. -/
def scoreP : Fin 128 → Fin 32 → EReal := dense (relu (dense (feat p) p.wp1 p.bp1)) p.wp2 p.bp2

/-- The hidden layer of the second head. -/
def hid : Fin 128 → Fin 1024 → EReal := relu (dense (feat p) p.wq1 p.bq1)

/-- The scores of the second head. -/
def scoreQ : Fin 128 → Fin 2048 → EReal := dense (hid p) p.wq2 p.bq2

/-- What a masked score is, as the programs spell it: minus infinity. -/
def masked : EReal := Ideal.ofBits .f32 0xFF800000#32

/-- How many places of a row are not taken. -/
def left (k : Fin 128 → Fin 2048 → BitVec 1) (r : Fin 128) : ℕ := (Finset.univ.filter fun i => ~~~(k r i) = 1#1).card

/-- The first result: the scores, masked from the number of places left on. -/
def par (k : Fin 128 → Fin 2048 → BitVec 1) (r : Fin 128) (c : Fin 32) : EReal :=
  Scalar.select (IntOp.cmpi .sge (BitVec.ofNat 32 c) (BitVec.ofNat 32 (left k r))) masked (scoreP p r c)

/-- The second result: the scores, masked where the place is taken. -/
def pos (k : Fin 128 → Fin 2048 → BitVec 1) (r : Fin 128) (c : Fin 2048) : EReal :=
  Scalar.select (k r c) masked (scoreQ p r c)

/-- A one-bit word widened to eight bits, as a number: one where the bit is set, else zero. -/
theorem bit_toInt (b : BitVec 1) : (b.setWidth 8).toInt = if b = 1#1 then 1 else 0 := by
  revert b; decide

/-- As an extended real. -/
theorem bit_real (b : BitVec 1) : (((b.setWidth 8).toInt : ℝ) : EReal) = if b = 1#1 then 1 else 0 := by
  rw [bit_toInt]; split_ifs <;> simp

/-- The positive numbers among them are those of the set bits. -/
theorem bit_pos (b : BitVec 1) : (0 : EReal) < (((b.setWidth 8).toInt : ℝ) : EReal) ↔ b = 1#1 := by
  rw [bit_real]; split_ifs with h <;> simp [h]

/-- The number of columns less the sum of a row's bits, rounded to an integer, is the number of places left. -/
theorem left_eq (k : Fin 128 → Fin 2048 → BitVec 1) (r : Fin 128) :
    Ideal.fptosi 32 (Ideal.ofBits .f32 0x45000000#32 - ∑ i, ((((k r i).setWidth 8).toInt : ℝ) : EReal)) = BitVec.ofNat 32 (left k r) := by
  have hl : Ideal.ofBits .f32 0x45000000#32 = ((2048 : ℝ) : EReal) := by
    simp [Ideal.ofBits, Ideal.ieee, -EReal.coe_mul]; norm_num
  have hb : ∀ b : BitVec 1, ¬ ~~~b = 1#1 ↔ b = 1#1 := by decide
  have hn : (Finset.univ.filter fun i => k r i = 1#1).card + left k r = 2048 := by
    have := Finset.card_filter_add_card_filter_not (s := (Finset.univ : Finset (Fin 2048))) (fun i => ~~~(k r i) = 1#1)
    simp only [hb, Finset.card_univ, Fintype.card_fin] at this
    unfold left; omega
  have hs : ∑ i, ((((k r i).setWidth 8).toInt : ℝ) : EReal) = (((Finset.univ.filter fun i => k r i = 1#1).card : ℝ) : EReal) := by
    simp only [bit_real, Finset.sum_ite, Finset.sum_const, nsmul_zero, add_zero, nsmul_one]
    norm_cast
  have hd : (2048 : ℝ) - ((Finset.univ.filter fun i => k r i = 1#1).card : ℝ) = ((left k r : ℕ) : ℝ) := by
    rw [sub_eq_iff_eq_add]; exact_mod_cast (by omega)
  have hle : left k r ≤ 2048 := by omega
  rw [hl, hs, ← EReal.coe_sub, hd]
  unfold Ideal.fptosi
  rw [Ideal.toIntClamped_coe, if_pos (Nat.cast_nonneg _), Int.floor_natCast]
  have : max (-(2 ^ (32 - 1) : ℕ) : ℤ) (min ((2 ^ (32 - 1) : ℕ) - 1 : ℤ) (left k r)) = (left k r : ℤ) := by
    norm_num; omega
  rw [this]; simp

end Cert.Net
-- ==== Proof.KI.Stages.lean ====
/-
  The kernel's results, entry by entry, over the extended reals.

  Each payload of the kernel is read at a row and a column. The products the kernel takes a block of weight rows at a time
  are the columns of one product, so that the two results are those of the network (Net.lean).
-/
module

public import proofs.«01_k».proof.Proof.KI.Values
public import proofs.«01_k».proof.Proof.Net
public import Idealize.ShloMosaic.Lib.Tactic
public import Idealize.ShloMosaic.Lib.Ring

@[expose] public section

set_option maxRecDepth 16384

noncomputable section

namespace Cert.KernelIdeal.Hand

open Cert.KernelIdeal Cert.KernelIdeal.Gen
open Idealize.ShloMosaic Idealize.SL.Sem

/-- A normalised row, after the first layer. -/
theorem pay11_at (h : FVec Ideal S128x1024 .f32) (b g be : FVec Ideal S1x1024 .f32) (r : Fin 128) (c : Fin 1024) :
    k0_pay11 (F := Ideal) h b g be (ix2 r c)
      = Net.norm (Net.relu fun r c => h (ix2 r c) + b (ix2 0 c)) (fun c => g (ix2 0 c)) (fun c => be (ix2 0 c)) r c := by
  pointwise [k0_pay11, Net.norm, Net.relu, Net.cen, Net.var, Net.len, Net.eps]

/-- A normalised row, after the second layer. -/
theorem pay13_at (h : FVec Ideal S128x1024 .f32) (b g be : FVec Ideal S1x1024 .f32) (r : Fin 128) (c : Fin 1024) :
    k0_pay13 (F := Ideal) h b g be (ix2 r c)
      = Net.norm (Net.relu fun r c => h (ix2 r c) + b (ix2 0 c)) (fun c => g (ix2 0 c)) (fun c => be (ix2 0 c)) r c := by
  pointwise [k0_pay13, Net.norm, Net.relu, Net.cen, Net.var, Net.len, Net.eps]

/-- A column of the second half, counted from the first. -/
theorem half (c : Fin 1024) (h : ¬ (c : ℕ) < 512) (hc : 512 + ((c : ℕ) - 512) < 1024) : (⟨512 + ((c : ℕ) - 512), hc⟩ : Fin 1024) = c :=
  Fin.ext (by show 512 + ((c : ℕ) - 512) = c; omega)

/-- The product of the second layer, its two halves side by side. -/
theorem pay12_at (f : FVec Ideal S128x1024 .f32) (w : FVec Ideal S1024x1024 .f32) (r : Fin 128) (c : Fin 1024) :
    k0_pay12 (F := Ideal) f (slab2 w ![0, 0] inb_S1024x1024_S512x1024_0_0) (slab2 w ![512, 0] inb_S1024x1024_S512x1024_512_0) (ix2 r c)
      = ∑ k, f (ix2 r k) * w (ix2 c k) := by
  pointwise [k0_pay12, slab2]
  by_cases h : (c : ℕ) < 512
  · rw [dif_pos h]
  · rw [dif_neg h]
    simp only [half c h]

/-- The hidden layer of the second head. -/
theorem pay16_at (f : FVec Ideal S128x1024 .f32) (w : FVec Ideal S1024x1024 .f32) (b : FVec Ideal S1x1024 .f32) (r : Fin 128) (c : Fin 1024) :
    k0_pay16 (F := Ideal) f (k0_pay15 f (slab2 w ![0, 0] inb_S1024x1024_S512x1024_0_0)) (slab2 w ![512, 0] inb_S1024x1024_S512x1024_512_0) b (ix2 r c)
      = max ((∑ k, f (ix2 r k) * w (ix2 c k)) + b (ix2 0 c)) 0 := by
  pointwise [k0_pay16, k0_pay15, slab2]
  by_cases h : (c : ℕ) < 512
  · rw [dif_pos h]
  · rw [dif_neg h]
    simp only [half c h]

/-- The scores of the first head. -/
theorem pay17_at (f : FVec Ideal S128x1024 .f32) (w1 : FVec Ideal S512x1024 .f32) (b1 : FVec Ideal S1x512 .f32) (w2 : FVec Ideal S32x512 .f32)
    (b2 : FVec Ideal S1x32 .f32) (r : Fin 128) (c : Fin 32) :
    k0_pay17 (F := Ideal) f w1 b1 w2 b2 (ix2 r c)
      = (∑ k, max ((∑ l, f (ix2 r l) * w1 (ix2 k l)) + b1 (ix2 0 k)) 0 * w2 (ix2 c k)) + b2 (ix2 0 c) := by
  pointwise [k0_pay17]

/-- The first product at a row and a column. -/
def prod1 (x : FVec Ideal S128x4096 .f32) (w : FVec Ideal S1024x4096 .f32) : FVec Ideal S128x1024 .f32 :=
  fun y => ∑ k, x (ix2 (y 0) k) * w (ix2 (y 1) k)

/-- Column block 0 of the first product, at a row and a column. -/
theorem block0_at (x : FVec Ideal S128x4096 .f32) (w : FVec Ideal S1024x4096 .f32) (r : Fin 128) (c : Fin 128) :
    (k0_pay1 x (slab1 w ![0, 0] inb_S1024x4096_S128x4096_0_0)) (ix2 r c) = ∑ k, x (ix2 r k) * w (ix2 ⟨c, by omega⟩ k) := by
  pointwise [k0_pay1, slab1]

/-- Column block 0 of the first product is the product there. -/
theorem block0 (x : FVec Ideal S128x4096 .f32) (w : FVec Ideal S1024x4096 .f32) (y : (Rect.unit (s := S128x1024) ![0, 0] S128x128.size inb_S128x1024_S128x128_0_0).shape.Idx) :
    (k0_pay1 x (slab1 w ![0, 0] inb_S1024x4096_S128x4096_0_0)) y = prod1 x w ((Rect.unit (s := S128x1024) ![0, 0] S128x128.size inb_S128x1024_S128x128_0_0).emb y) := by
  obtain ⟨r, c, rfl⟩ : ∃ (r : Fin 128) (c : Fin 128), y = ix2 r c := ⟨y 0, y 1, eq_ix2 y⟩
  refine (block0_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show (c : ℕ) = 0 + 1 * c; omega))

/-- Column block 1 of the first product, at a row and a column. -/
theorem block1_at (x : FVec Ideal S128x4096 .f32) (w : FVec Ideal S1024x4096 .f32) (r : Fin 128) (c : Fin 128) :
    (k0_pay2 x (slab1 w ![128, 0] inb_S1024x4096_S128x4096_128_0)) (ix2 r c) = ∑ k, x (ix2 r k) * w (ix2 ⟨128 + c, by omega⟩ k) := by
  pointwise [k0_pay2, slab1]

/-- Column block 1 of the first product is the product there. -/
theorem block1 (x : FVec Ideal S128x4096 .f32) (w : FVec Ideal S1024x4096 .f32) (y : (Rect.unit (s := S128x1024) ![0, 128] S128x128.size inb_S128x1024_S128x128_0_128).shape.Idx) :
    (k0_pay2 x (slab1 w ![128, 0] inb_S1024x4096_S128x4096_128_0)) y = prod1 x w ((Rect.unit (s := S128x1024) ![0, 128] S128x128.size inb_S128x1024_S128x128_0_128).emb y) := by
  obtain ⟨r, c, rfl⟩ : ∃ (r : Fin 128) (c : Fin 128), y = ix2 r c := ⟨y 0, y 1, eq_ix2 y⟩
  refine (block1_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 128 + (c : ℕ) = 128 + 1 * c; omega))

/-- Column block 2 of the first product, at a row and a column. -/
theorem block2_at (x : FVec Ideal S128x4096 .f32) (w : FVec Ideal S1024x4096 .f32) (r : Fin 128) (c : Fin 128) :
    (k0_pay5 (k0_pay3 x) (k0_pay4 (slab1 w ![256, 0] inb_S1024x4096_S128x4096_256_0))) (ix2 r c) = ∑ k, x (ix2 r k) * w (ix2 ⟨256 + c, by omega⟩ k) := by
  pointwise [k0_pay5, k0_pay3, k0_pay4, slab1]

/-- Column block 2 of the first product is the product there. -/
theorem block2 (x : FVec Ideal S128x4096 .f32) (w : FVec Ideal S1024x4096 .f32) (y : (Rect.unit (s := S128x1024) ![0, 256] S128x128.size inb_S128x1024_S128x128_0_256).shape.Idx) :
    (k0_pay5 (k0_pay3 x) (k0_pay4 (slab1 w ![256, 0] inb_S1024x4096_S128x4096_256_0))) y = prod1 x w ((Rect.unit (s := S128x1024) ![0, 256] S128x128.size inb_S128x1024_S128x128_0_256).emb y) := by
  obtain ⟨r, c, rfl⟩ : ∃ (r : Fin 128) (c : Fin 128), y = ix2 r c := ⟨y 0, y 1, eq_ix2 y⟩
  refine (block2_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 256 + (c : ℕ) = 256 + 1 * c; omega))

/-- Column block 3 of the first product, at a row and a column. -/
theorem block3_at (x : FVec Ideal S128x4096 .f32) (w : FVec Ideal S1024x4096 .f32) (r : Fin 128) (c : Fin 128) :
    (k0_pay6 x (slab1 w ![384, 0] inb_S1024x4096_S128x4096_384_0)) (ix2 r c) = ∑ k, x (ix2 r k) * w (ix2 ⟨384 + c, by omega⟩ k) := by
  pointwise [k0_pay6, slab1]

/-- Column block 3 of the first product is the product there. -/
theorem block3 (x : FVec Ideal S128x4096 .f32) (w : FVec Ideal S1024x4096 .f32) (y : (Rect.unit (s := S128x1024) ![0, 384] S128x128.size inb_S128x1024_S128x128_0_384).shape.Idx) :
    (k0_pay6 x (slab1 w ![384, 0] inb_S1024x4096_S128x4096_384_0)) y = prod1 x w ((Rect.unit (s := S128x1024) ![0, 384] S128x128.size inb_S128x1024_S128x128_0_384).emb y) := by
  obtain ⟨r, c, rfl⟩ : ∃ (r : Fin 128) (c : Fin 128), y = ix2 r c := ⟨y 0, y 1, eq_ix2 y⟩
  refine (block3_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 384 + (c : ℕ) = 384 + 1 * c; omega))

/-- Column block 4 of the first product, at a row and a column. -/
theorem block4_at (x : FVec Ideal S128x4096 .f32) (w : FVec Ideal S1024x4096 .f32) (r : Fin 128) (c : Fin 128) :
    (k0_pay7 x (slab1 w ![512, 0] inb_S1024x4096_S128x4096_512_0)) (ix2 r c) = ∑ k, x (ix2 r k) * w (ix2 ⟨512 + c, by omega⟩ k) := by
  pointwise [k0_pay7, slab1]

/-- Column block 4 of the first product is the product there. -/
theorem block4 (x : FVec Ideal S128x4096 .f32) (w : FVec Ideal S1024x4096 .f32) (y : (Rect.unit (s := S128x1024) ![0, 512] S128x128.size inb_S128x1024_S128x128_0_512).shape.Idx) :
    (k0_pay7 x (slab1 w ![512, 0] inb_S1024x4096_S128x4096_512_0)) y = prod1 x w ((Rect.unit (s := S128x1024) ![0, 512] S128x128.size inb_S128x1024_S128x128_0_512).emb y) := by
  obtain ⟨r, c, rfl⟩ : ∃ (r : Fin 128) (c : Fin 128), y = ix2 r c := ⟨y 0, y 1, eq_ix2 y⟩
  refine (block4_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 512 + (c : ℕ) = 512 + 1 * c; omega))

/-- Column block 5 of the first product, at a row and a column. -/
theorem block5_at (x : FVec Ideal S128x4096 .f32) (w : FVec Ideal S1024x4096 .f32) (r : Fin 128) (c : Fin 128) :
    (k0_pay8 x (slab1 w ![640, 0] inb_S1024x4096_S128x4096_640_0)) (ix2 r c) = ∑ k, x (ix2 r k) * w (ix2 ⟨640 + c, by omega⟩ k) := by
  pointwise [k0_pay8, slab1]

/-- Column block 5 of the first product is the product there. -/
theorem block5 (x : FVec Ideal S128x4096 .f32) (w : FVec Ideal S1024x4096 .f32) (y : (Rect.unit (s := S128x1024) ![0, 640] S128x128.size inb_S128x1024_S128x128_0_640).shape.Idx) :
    (k0_pay8 x (slab1 w ![640, 0] inb_S1024x4096_S128x4096_640_0)) y = prod1 x w ((Rect.unit (s := S128x1024) ![0, 640] S128x128.size inb_S128x1024_S128x128_0_640).emb y) := by
  obtain ⟨r, c, rfl⟩ : ∃ (r : Fin 128) (c : Fin 128), y = ix2 r c := ⟨y 0, y 1, eq_ix2 y⟩
  refine (block5_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 640 + (c : ℕ) = 640 + 1 * c; omega))

/-- Column block 6 of the first product, at a row and a column. -/
theorem block6_at (x : FVec Ideal S128x4096 .f32) (w : FVec Ideal S1024x4096 .f32) (r : Fin 128) (c : Fin 128) :
    (k0_pay9 x (slab1 w ![768, 0] inb_S1024x4096_S128x4096_768_0)) (ix2 r c) = ∑ k, x (ix2 r k) * w (ix2 ⟨768 + c, by omega⟩ k) := by
  pointwise [k0_pay9, slab1]

/-- Column block 6 of the first product is the product there. -/
theorem block6 (x : FVec Ideal S128x4096 .f32) (w : FVec Ideal S1024x4096 .f32) (y : (Rect.unit (s := S128x1024) ![0, 768] S128x128.size inb_S128x1024_S128x128_0_768).shape.Idx) :
    (k0_pay9 x (slab1 w ![768, 0] inb_S1024x4096_S128x4096_768_0)) y = prod1 x w ((Rect.unit (s := S128x1024) ![0, 768] S128x128.size inb_S128x1024_S128x128_0_768).emb y) := by
  obtain ⟨r, c, rfl⟩ : ∃ (r : Fin 128) (c : Fin 128), y = ix2 r c := ⟨y 0, y 1, eq_ix2 y⟩
  refine (block6_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 768 + (c : ℕ) = 768 + 1 * c; omega))

/-- Column block 7 of the first product, at a row and a column. -/
theorem block7_at (x : FVec Ideal S128x4096 .f32) (w : FVec Ideal S1024x4096 .f32) (r : Fin 128) (c : Fin 128) :
    (k0_pay10 x (slab1 w ![896, 0] inb_S1024x4096_S128x4096_896_0)) (ix2 r c) = ∑ k, x (ix2 r k) * w (ix2 ⟨896 + c, by omega⟩ k) := by
  pointwise [k0_pay10, slab1]

/-- Column block 7 of the first product is the product there. -/
theorem block7 (x : FVec Ideal S128x4096 .f32) (w : FVec Ideal S1024x4096 .f32) (y : (Rect.unit (s := S128x1024) ![0, 896] S128x128.size inb_S128x1024_S128x128_0_896).shape.Idx) :
    (k0_pay10 x (slab1 w ![896, 0] inb_S1024x4096_S128x4096_896_0)) y = prod1 x w ((Rect.unit (s := S128x1024) ![0, 896] S128x128.size inb_S128x1024_S128x128_0_896).emb y) := by
  obtain ⟨r, c, rfl⟩ : ∃ (r : Fin 128) (c : Fin 128), y = ix2 r c := ⟨y 0, y 1, eq_ix2 y⟩
  refine (block7_at x w r c).trans (Finset.sum_congr rfl fun k _ => congrArg₂ (· * ·) (congrArg x ?_) (congrArg w ?_))
  · exact congrArg (ix2 · k) (Fin.ext (by show (r : ℕ) = 0 + 1 * r; omega))
  · exact congrArg (ix2 · k) (Fin.ext (by show 896 + (c : ℕ) = 896 + 1 * c; omega))

/-- The eight column blocks make up the first product. -/
theorem h_eq (x : FVec Ideal S128x4096 .f32) (w : FVec Ideal S1024x4096 .f32) : h (F := Ideal) x w = prod1 x w := by
  funext y
  have hc : ∃ p ∈ hPieces (F := Ideal) x w, y ∈ p.1.set :=
    View.cover_of_tiledL (Val := Elt Ideal) (s := S128x1024) (hPieces (F := Ideal) x w) S128x128.size (by sl_kernel_rfl) y
  unfold h
  refine View.canon_apply_of_pieces (Val := Elt Ideal) (e := .f32) (prod1 x w) (hPieces x w) ?_ y hc
  simp only [hPieces, List.forall_mem_cons, List.not_mem_nil, false_imp_iff, implies_true, and_true]
  exact ⟨block7 x w, block6 x w, block5 x w, block4 x w, block3 x w, block2 x w, block1 x w, block0 x w⟩

end Cert.KernelIdeal.Hand
-- ==== Proof.KI.Entry.lean ====
/-
  The kernel's two results, entry by entry, over the extended reals: those of the network (Net.lean).
-/
module

public import proofs.«01_k».proof.Proof.KI.Stages

@[expose] public section

set_option maxRecDepth 16384

noncomputable section

namespace Cert.KernelIdeal.Hand

open Cert.KernelIdeal Cert.KernelIdeal.Gen
open Idealize.ShloMosaic Idealize.SL.Sem

/-- The operands as functions of row and column. -/
def params (o : Operands Ideal) : Net.Params where
  x r k := o.x (ix2 r k)
  w1 c k := o.w1 (ix2 c k)
  b1 c := o.b1 (ix2 0 c)
  g1 c := o.g1 (ix2 0 c)
  be1 c := o.be1 (ix2 0 c)
  w2 c k := o.w2 (ix2 c k)
  b2 c := o.b2 (ix2 0 c)
  g2 c := o.g2 (ix2 0 c)
  be2 c := o.be2 (ix2 0 c)
  wp1 c k := o.wp1 (ix2 c k)
  bp1 c := o.bp1 (ix2 0 c)
  wp2 c k := o.wp2 (ix2 c k)
  bp2 c := o.bp2 (ix2 0 c)
  wq1 c k := o.wq1 (ix2 c k)
  bq1 c := o.bq1 (ix2 0 c)
  wq2 c k := o.wq2 (ix2 c k)
  bq2 c := o.bq2 (ix2 0 c)

variable (o : Operands Ideal)

/-- The features after the first layer, at a row and a column. -/
theorem feat1_at (r : Fin 128) (c : Fin 1024) : feat1 o (ix2 r c) = Net.feat1 (params o) r c := by
  unfold feat1
  rw [pay11_at, h_eq]
  rfl

/-- The features after the second layer, at a row and a column. -/
theorem feat_at (r : Fin 128) (c : Fin 1024) : feat o (ix2 r c) = Net.feat (params o) r c := by
  unfold feat
  simp only [pay13_at, pay12_at, feat1_at]
  rfl

/-- The hidden layer of the second head, at a row and a column. -/
theorem hid_at (r : Fin 128) (c : Fin 1024) : hid o (ix2 r c) = Net.hid (params o) r c := by
  unfold hid
  simp only [pay16_at, feat_at]
  rfl

/-- What the kernel leaves for a place, from the mask and the score. -/
theorem pick (b : BitVec 1) (s : EReal) :
    (if (0 : EReal) < (((b.setWidth 8).toInt : ℝ) : EReal) then Net.masked else s) = Scalar.select b Net.masked s := by
  rw [if_congr (Net.bit_pos b) rfl rfl]
  rcases (by revert b; decide : b = 0#1 ∨ b = 1#1) with rfl | rfl <;> simp [Scalar.select]

variable (k : Fin 128 → Fin 2048 → BitVec 1) (hk : ∀ r i, o.msk (ix2 r i) = (k r i).setWidth 8)

/-- The mask as a number, at a row and a column. -/
theorem mask_real (r : Fin 128) (i : Fin 2048) (hk : ∀ r i, o.msk (ix2 r i) = (k r i).setWidth 8) :
    FloatOps.sitofp (F := Ideal) .f32 (o.msk (ix2 r i)) = ((((k r i).setWidth 8).toInt : ℝ) : EReal) := by
  rw [hk]; rfl

include hk

/-- The first result, at a row and a column. -/
theorem par_at (r : Fin 128) (c : Fin 32) : par o (ix2 r c) = Net.par (params o) k r c := by
  have e : k0_pay18 (maskf o) (ix2 r c) = IntOp.cmpi .sge (BitVec.ofNat 32 c) (BitVec.ofNat 32 (Net.left k r)) := by
    pointwise [k0_pay18, maskf, k0_pay14]
    simp only [mask_real o k _ _ hk]
    exact congrArg _ (Net.left_eq k r)
  unfold par
  pointwise [k0_pay19, e, pay17_at, feat_at]
  rfl

/-- The second result as an array. -/
def posArr : FVec Ideal S128x2048 .f32 := fun y => Net.pos (params o) k (y 0) (y 1)

/-- Column block 0 of the second result, at a row and a column. -/
theorem pos0_at (r : Fin 128) (c : Fin 512) : pos0 o (ix2 r c) = Net.pos (params o) k r ⟨c, by omega⟩ := by
  pointwise [pos0, k0_pay20, slab4, biasq, maskf, k0_pay14, hid_at]
  simp only [mask_real o k _ _ hk]
  exact pick (k r ⟨c, by omega⟩) _

/-- Column block 0 of the second result is the result there. -/
theorem pos0_eq (y : (Rect.unit (s := S128x2048) ![0, 0] S128x512.size inb_S128x2048_S128x512_0_0).shape.Idx) : pos0 o y = posArr o k ((Rect.unit (s := S128x2048) ![0, 0] S128x512.size inb_S128x2048_S128x512_0_0).emb y) := by
  obtain ⟨r, c, rfl⟩ : ∃ (r : Fin 128) (c : Fin 512), y = ix2 r c := ⟨y 0, y 1, eq_ix2 y⟩
  refine (pos0_at o k hk r c).trans (congrArg₂ (Net.pos (params o) k) (Fin.ext ?_) (Fin.ext ?_))
  · show (r : ℕ) = 0 + 1 * r
    omega
  · show (c : ℕ) = 0 + 1 * c
    omega

/-- Column block 1 of the second result, at a row and a column. -/
theorem pos1_at (r : Fin 128) (c : Fin 512) : pos1 o (ix2 r c) = Net.pos (params o) k r ⟨512 + c, by omega⟩ := by
  pointwise [pos1, k0_pay21, slab4, biasq, maskf, k0_pay14, hid_at]
  simp only [mask_real o k _ _ hk]
  exact pick (k r ⟨512 + c, by omega⟩) _

/-- Column block 1 of the second result is the result there. -/
theorem pos1_eq (y : (Rect.unit (s := S128x2048) ![0, 512] S128x512.size inb_S128x2048_S128x512_0_512).shape.Idx) : pos1 o y = posArr o k ((Rect.unit (s := S128x2048) ![0, 512] S128x512.size inb_S128x2048_S128x512_0_512).emb y) := by
  obtain ⟨r, c, rfl⟩ : ∃ (r : Fin 128) (c : Fin 512), y = ix2 r c := ⟨y 0, y 1, eq_ix2 y⟩
  refine (pos1_at o k hk r c).trans (congrArg₂ (Net.pos (params o) k) (Fin.ext ?_) (Fin.ext ?_))
  · show (r : ℕ) = 0 + 1 * r
    omega
  · show 512 + (c : ℕ) = 512 + 1 * c
    omega

/-- Column block 2 of the second result, at a row and a column. -/
theorem pos2_at (r : Fin 128) (c : Fin 512) : pos2 o (ix2 r c) = Net.pos (params o) k r ⟨1024 + c, by omega⟩ := by
  pointwise [pos2, k0_pay22, slab4, biasq, maskf, k0_pay14, hid_at]
  simp only [mask_real o k _ _ hk]
  exact pick (k r ⟨1024 + c, by omega⟩) _

/-- Column block 2 of the second result is the result there. -/
theorem pos2_eq (y : (Rect.unit (s := S128x2048) ![0, 1024] S128x512.size inb_S128x2048_S128x512_0_1024).shape.Idx) : pos2 o y = posArr o k ((Rect.unit (s := S128x2048) ![0, 1024] S128x512.size inb_S128x2048_S128x512_0_1024).emb y) := by
  obtain ⟨r, c, rfl⟩ : ∃ (r : Fin 128) (c : Fin 512), y = ix2 r c := ⟨y 0, y 1, eq_ix2 y⟩
  refine (pos2_at o k hk r c).trans (congrArg₂ (Net.pos (params o) k) (Fin.ext ?_) (Fin.ext ?_))
  · show (r : ℕ) = 0 + 1 * r
    omega
  · show 1024 + (c : ℕ) = 1024 + 1 * c
    omega

/-- Column block 3 of the second result, at a row and a column. -/
theorem pos3_at (r : Fin 128) (c : Fin 512) : pos3 o (ix2 r c) = Net.pos (params o) k r ⟨1536 + c, by omega⟩ := by
  pointwise [pos3, k0_pay24, k0_pay23, slab4, biasq, maskf, k0_pay14, hid_at]
  simp only [mask_real o k _ _ hk]
  exact pick (k r ⟨1536 + c, by omega⟩) _

/-- Column block 3 of the second result is the result there. -/
theorem pos3_eq (y : (Rect.unit (s := S128x2048) ![0, 1536] S128x512.size inb_S128x2048_S128x512_0_1536).shape.Idx) : pos3 o y = posArr o k ((Rect.unit (s := S128x2048) ![0, 1536] S128x512.size inb_S128x2048_S128x512_0_1536).emb y) := by
  obtain ⟨r, c, rfl⟩ : ∃ (r : Fin 128) (c : Fin 512), y = ix2 r c := ⟨y 0, y 1, eq_ix2 y⟩
  refine (pos3_at o k hk r c).trans (congrArg₂ (Net.pos (params o) k) (Fin.ext ?_) (Fin.ext ?_))
  · show (r : ℕ) = 0 + 1 * r
    omega
  · show 1536 + (c : ℕ) = 1536 + 1 * c
    omega

/-- The second result, at a row and a column. -/
theorem pos_at (r : Fin 128) (c : Fin 2048) : pos o (ix2 r c) = Net.pos (params o) k r c := by
  have hc : ∃ p ∈ posPieces o, (ix2 r c : S128x2048.Idx) ∈ p.1.set :=
    View.cover_of_tiledL (Val := Elt Ideal) (s := S128x2048) (posPieces o) S128x512.size (by sl_kernel_rfl) (ix2 r c)
  unfold pos
  refine View.canon_apply_of_pieces (Val := Elt Ideal) (e := .f32) (posArr o k) (posPieces o) ?_ (ix2 r c) hc
  simp only [posPieces, List.forall_mem_cons, List.not_mem_nil, false_imp_iff, implies_true, and_true]
  exact ⟨pos3_eq o k hk, pos2_eq o k hk, pos1_eq o k hk, pos0_eq o k hk⟩

end Cert.KernelIdeal.Hand
-- ==== Proof.KI.Args.lean ====
/-
  What the kernel's operands are, in the arguments of the program: the mask is widened, a vector of biases or
  scales is laid as one row, and every other operand is an argument itself.
-/
module

public import proofs.«01_k».proof.Proof.KI.Frame
public import proofs.«01_k».proof.Proof.KI.Entry
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- A vector of 1024 laid as one row, at a column. -/
theorem row1024_at (x : FVec F S1024 .f32) (h : S1024.ShapeCasts S1x1024) (j : Fin 1024) : shapeCast S1x1024 x h (ix2 0 j) = x (ix1 j) := by
  pointwise []

/-- A vector of 512 laid as one row, at a column. -/
theorem row512_at (x : FVec F S512 .f32) (h : S512.ShapeCasts S1x512) (j : Fin 512) : shapeCast S1x512 x h (ix2 0 j) = x (ix1 j) := by
  pointwise []

/-- A vector of 32 laid as one row, at a column. -/
theorem row32_at (x : FVec F S32 .f32) (h : S32.ShapeCasts S1x32) (j : Fin 32) : shapeCast S1x32 x h (ix2 0 j) = x (ix1 j) := by
  pointwise []

/-- A vector of 2048 laid as one row, at a column. -/
theorem row2048_at (x : FVec F S2048 .f32) (h : S2048.ShapeCasts S1x2048) (j : Fin 2048) : shapeCast S1x2048 x h (ix2 0 j) = x (ix1 j) := by
  pointwise []

variable (m : (ℓ : Loc nD τ sig) → Buf (Elt F) ℓ) (c : Dev nD)

/-- Window 0 holds the whole of its array. -/
theorem window0 : (iblk m c 0 t0_0 : S1x1024.Idx → F .f32) = V m c main_call0_v1 := by
  funext y
  unfold iblk
  refine congrArg (V m c main_call0_v1) (funext fun a => Fin.ext ?_)
  exact Pipeline.Window.rect_emb_val_of_index_zero (cfg0.win 0) t0_0 a (by fin_cases a <;> rfl) y

/-- Window 1 holds the whole of its array. -/
theorem window1 : (iblk m c 1 t0_0 : S1x1024.Idx → F .f32) = V m c main_call0_v2 := by
  funext y
  unfold iblk
  refine congrArg (V m c main_call0_v2) (funext fun a => Fin.ext ?_)
  exact Pipeline.Window.rect_emb_val_of_index_zero (cfg0.win 1) t0_0 a (by fin_cases a <;> rfl) y

/-- Window 2 holds the whole of its array. -/
theorem window2 : (iblk m c 2 t0_0 : S1x1024.Idx → F .f32) = V m c main_call0_v3 := by
  funext y
  unfold iblk
  refine congrArg (V m c main_call0_v3) (funext fun a => Fin.ext ?_)
  exact Pipeline.Window.rect_emb_val_of_index_zero (cfg0.win 2) t0_0 a (by fin_cases a <;> rfl) y

/-- Window 3 holds the whole of its array. -/
theorem window3 : (iblk m c 3 t0_0 : S1x1024.Idx → F .f32) = V m c main_call0_v4 := by
  funext y
  unfold iblk
  refine congrArg (V m c main_call0_v4) (funext fun a => Fin.ext ?_)
  exact Pipeline.Window.rect_emb_val_of_index_zero (cfg0.win 3) t0_0 a (by fin_cases a <;> rfl) y

/-- Window 4 holds the whole of its array. -/
theorem window4 : (iblk m c 4 t0_0 : S1x1024.Idx → F .f32) = V m c main_call0_v5 := by
  funext y
  unfold iblk
  refine congrArg (V m c main_call0_v5) (funext fun a => Fin.ext ?_)
  exact Pipeline.Window.rect_emb_val_of_index_zero (cfg0.win 4) t0_0 a (by fin_cases a <;> rfl) y

/-- Window 5 holds the whole of its array. -/
theorem window5 : (iblk m c 5 t0_0 : S1x1024.Idx → F .f32) = V m c main_call0_v6 := by
  funext y
  unfold iblk
  refine congrArg (V m c main_call0_v6) (funext fun a => Fin.ext ?_)
  exact Pipeline.Window.rect_emb_val_of_index_zero (cfg0.win 5) t0_0 a (by fin_cases a <;> rfl) y

/-- Window 6 holds the whole of its array. -/
theorem window6 : (iblk m c 6 t0_0 : S1x512.Idx → F .f32) = V m c main_call0_v7 := by
  funext y
  unfold iblk
  refine congrArg (V m c main_call0_v7) (funext fun a => Fin.ext ?_)
  exact Pipeline.Window.rect_emb_val_of_index_zero (cfg0.win 6) t0_0 a (by fin_cases a <;> rfl) y

/-- Window 7 holds the whole of its array. -/
theorem window7 : (iblk m c 7 t0_0 : S32x512.Idx → F .f32) = V m c main_arg12 := by
  funext y
  unfold iblk
  refine congrArg (V m c main_arg12) (funext fun a => Fin.ext ?_)
  exact Pipeline.Window.rect_emb_val_of_index_zero (cfg0.win 7) t0_0 a (by fin_cases a <;> rfl) y

/-- Window 8 holds the whole of its array. -/
theorem window8 : (iblk m c 8 t0_0 : S1x32.Idx → F .f32) = V m c main_call0_v8 := by
  funext y
  unfold iblk
  refine congrArg (V m c main_call0_v8) (funext fun a => Fin.ext ?_)
  exact Pipeline.Window.rect_emb_val_of_index_zero (cfg0.win 8) t0_0 a (by fin_cases a <;> rfl) y

/-- Window 9 holds the whole of its array. -/
theorem window9 : (iblk m c 9 t0_0 : S1x1024.Idx → F .f32) = V m c main_call0_v9 := by
  funext y
  unfold iblk
  refine congrArg (V m c main_call0_v9) (funext fun a => Fin.ext ?_)
  exact Pipeline.Window.rect_emb_val_of_index_zero (cfg0.win 9) t0_0 a (by fin_cases a <;> rfl) y

/-- Window 10 holds the whole of its array. -/
theorem window10 : (iblk m c 10 t0_0 : S1x2048.Idx → F .f32) = V m c main_call0_v10 := by
  funext y
  unfold iblk
  refine congrArg (V m c main_call0_v10) (funext fun a => Fin.ext ?_)
  exact Pipeline.Window.rect_emb_val_of_index_zero (cfg0.win 10) t0_0 a (by fin_cases a <;> rfl) y

/-- Argument 3, laid as one row, at a column. -/
theorem arg3_at (j : Fin 1024) : (iblk m c 0 t0_0 : S1x1024.Idx → F .f32) (ix2 0 j) = (m ((c : Thread nD τ).loc main_arg3) : S1024.Idx → F .f32) (ix1 j) := by
  rw [window0]
  unfold V
  after_reads_simp
  exact row1024_at _ _ j

/-- Argument 4, laid as one row, at a column. -/
theorem arg4_at (j : Fin 1024) : (iblk m c 1 t0_0 : S1x1024.Idx → F .f32) (ix2 0 j) = (m ((c : Thread nD τ).loc main_arg4) : S1024.Idx → F .f32) (ix1 j) := by
  rw [window1]
  unfold V
  after_reads_simp
  exact row1024_at _ _ j

/-- Argument 5, laid as one row, at a column. -/
theorem arg5_at (j : Fin 1024) : (iblk m c 2 t0_0 : S1x1024.Idx → F .f32) (ix2 0 j) = (m ((c : Thread nD τ).loc main_arg5) : S1024.Idx → F .f32) (ix1 j) := by
  rw [window2]
  unfold V
  after_reads_simp
  exact row1024_at _ _ j

/-- Argument 7, laid as one row, at a column. -/
theorem arg7_at (j : Fin 1024) : (iblk m c 3 t0_0 : S1x1024.Idx → F .f32) (ix2 0 j) = (m ((c : Thread nD τ).loc main_arg7) : S1024.Idx → F .f32) (ix1 j) := by
  rw [window3]
  unfold V
  after_reads_simp
  exact row1024_at _ _ j

/-- Argument 8, laid as one row, at a column. -/
theorem arg8_at (j : Fin 1024) : (iblk m c 4 t0_0 : S1x1024.Idx → F .f32) (ix2 0 j) = (m ((c : Thread nD τ).loc main_arg8) : S1024.Idx → F .f32) (ix1 j) := by
  rw [window4]
  unfold V
  after_reads_simp
  exact row1024_at _ _ j

/-- Argument 9, laid as one row, at a column. -/
theorem arg9_at (j : Fin 1024) : (iblk m c 5 t0_0 : S1x1024.Idx → F .f32) (ix2 0 j) = (m ((c : Thread nD τ).loc main_arg9) : S1024.Idx → F .f32) (ix1 j) := by
  rw [window5]
  unfold V
  after_reads_simp
  exact row1024_at _ _ j

/-- Argument 11, laid as one row, at a column. -/
theorem arg11_at (j : Fin 512) : (iblk m c 6 t0_0 : S1x512.Idx → F .f32) (ix2 0 j) = (m ((c : Thread nD τ).loc main_arg11) : S512.Idx → F .f32) (ix1 j) := by
  rw [window6]
  unfold V
  after_reads_simp
  exact row512_at _ _ j

/-- Argument 13, laid as one row, at a column. -/
theorem arg13_at (j : Fin 32) : (iblk m c 8 t0_0 : S1x32.Idx → F .f32) (ix2 0 j) = (m ((c : Thread nD τ).loc main_arg13) : S32.Idx → F .f32) (ix1 j) := by
  rw [window8]
  unfold V
  after_reads_simp
  exact row32_at _ _ j

/-- Argument 15, laid as one row, at a column. -/
theorem arg15_at (j : Fin 1024) : (iblk m c 9 t0_0 : S1x1024.Idx → F .f32) (ix2 0 j) = (m ((c : Thread nD τ).loc main_arg15) : S1024.Idx → F .f32) (ix1 j) := by
  rw [window9]
  unfold V
  after_reads_simp
  exact row1024_at _ _ j

/-- Argument 17, laid as one row, at a column. -/
theorem arg17_at (j : Fin 2048) : (iblk m c 10 t0_0 : S1x2048.Idx → F .f32) (ix2 0 j) = (m ((c : Thread nD τ).loc main_arg17) : S2048.Idx → F .f32) (ix1 j) := by
  rw [window10]
  unfold V
  after_reads_simp
  exact row2048_at _ _ j

/-- The widened mask, at a row and a column. -/
theorem mask_at (r : Fin 128) (j : Fin 2048) :
    (V m c main_call0_v0 : S128x2048.Idx → BitVec 8) (ix2 r j) = BitVec.setWidth 8 ((m ((c : Thread nD τ).loc main_arg1) : S128x2048.Idx → BitVec 1) (ix2 r j)) := by
  unfold V
  after_reads_simp
  rfl

end Cert.KernelIdeal.Hand
-- ==== Proof.RI.Stages.lean ====
/-
  The reference's results, stage by stage.

  The arguments are gathered in one record. Each layer of the reference is a definition over arrays in the operations the
  reference is printed in, and each of the two composed results is the last of them.
-/
module

public import proofs.«01_k».proof.Proof.Gen.ReferenceIdeal.Run

@[expose] public section

noncomputable section

namespace Cert.ReferenceIdeal.Hand

open Cert.ReferenceIdeal Cert.ReferenceIdeal.Gen Cert.ReferenceIdeal.Value
open Idealize.ShloMosaic Idealize.SL.Sem

variable {F : FTy → Type} [FloatOps F]

/-- The arguments of the reference, as arrays. -/
structure Args (F : FTy → Type) where
  x : Vec F S128x4096 .f32
  msk : Vec F S128x2048 .i1
  w1 : Vec F S1024x4096 .f32
  b1 : Vec F S1024 .f32
  g1 : Vec F S1024 .f32
  be1 : Vec F S1024 .f32
  w2 : Vec F S1024x1024 .f32
  b2 : Vec F S1024 .f32
  g2 : Vec F S1024 .f32
  be2 : Vec F S1024 .f32
  wp1 : Vec F S512x1024 .f32
  bp1 : Vec F S512 .f32
  wp2 : Vec F S32x512 .f32
  bp2 : Vec F S32 .f32
  wq1 : Vec F S1024x1024 .f32
  bq1 : Vec F S1024 .f32
  wq2 : Vec F S2048x1024 .f32
  bq2 : Vec F S2048 .f32

/-- A vector of features laid along every row. -/
def row (b : FVec F S1024 .f32) : FVec F S128x1024 .f32 :=
  broadcastInDim S128x1024 ![0, 1] bcast_S1x1024_S128x1024_0_1 (broadcastInDim S1x1024 ![1] bcast_S1024_S1x1024_1 b)

/-- The rectifier on the features. -/
def relu (x : FVec F S128x1024 .f32) : FVec F S128x1024 .f32 :=
  maximumf x (broadcastInDim S128x1024 ![] bcast_S_S128x1024 (constant S_ .f32 0x00000000#32))

/-- The features less their row's mean. -/
def cen (x : FVec F S128x1024 .f32) : FVec F S128x1024 .f32 :=
  subf x (broadcastInDim S128x1024 ![0, 1] bcast_S128x1_S128x1024_0_1 (Host.divf (broadcastInDim S128x1 ![0] bcast_S128_S128x1_0 (Host.reduceAdd x (constant S_ .f32 0x00000000#32) reducesTo_S128x1024_S128_d1 h_S_)) (broadcastInDim S128x1 ![] bcast_S_S128x1 (constant S_ .f32 0x44800000#32))))

/-- The variance of each row. -/
def var (x : FVec F S128x1024 .f32) : FVec F S128x1 .f32 :=
  select (broadcastInDim S128x1 ![] bcast_S_S128x1 (cmpf (F := F) .ogt (subf (constant S_ .f32 0x44800000#32) (sitofp .f32 (constantI S_ 32 0#32))) (constant S_ .f32 0x00000000#32)))
    (Host.divf (broadcastInDim S128x1 ![0] bcast_S128_S128x1_0 (Host.reduceAdd (mulf (cen x) (cen x)) (constant S_ .f32 0x00000000#32) reducesTo_S128x1024_S128_d1 h_S_)) (broadcastInDim S128x1 ![] bcast_S_S128x1 (subf (constant S_ .f32 0x44800000#32) (sitofp .f32 (constantI S_ 32 0#32)))))
    (broadcastInDim S128x1 ![] bcast_S_S128x1 (id (constant S_ .f32 0x7FC00000#32)))

/-- The normalisation of each row. -/
def norm (x : FVec F S128x1024 .f32) (g be : FVec F S1024 .f32) : FVec F S128x1024 .f32 :=
  addf (mulf (Host.divf (cen x) (broadcastInDim S128x1024 ![0, 1] bcast_S128x1_S128x1024_0_1 (Host.sqrt (addf (var x) (broadcastInDim S128x1 ![] bcast_S_S128x1 (constant S_ .f32 0x3727C5AC#32)))))) (row g)) (row be)

/-- The first dense layer. -/
def dense1 (x : FVec F S128x4096 .f32) (w : FVec F S1024x4096 .f32) (b : FVec F S1024 .f32) : FVec F S128x1024 .f32 :=
  addf (Host.dotGeneral dot_S128x4096_S4096x1024_S128x1024_1_0_0_1_n_n none x (transpose S4096x1024 [1, 0] w transposes_S1024x4096_S4096x1024_1_0)) (row b)

/-- A dense layer from the features to the features. -/
def dense2 (x : FVec F S128x1024 .f32) (w : FVec F S1024x1024 .f32) (b : FVec F S1024 .f32) : FVec F S128x1024 .f32 :=
  addf (Host.dotGeneral dot_S128x1024_S1024x1024_S128x1024_1_0_0_1_n_n none x (transpose S1024x1024 [1, 0] w transposes_S1024x1024_S1024x1024_1_0)) (row b)

/-- The hidden layer of the first head. -/
def headP (x : FVec F S128x1024 .f32) (w : FVec F S512x1024 .f32) (b : FVec F S512 .f32) : FVec F S128x512 .f32 :=
  maximumf (addf (Host.dotGeneral dot_S128x1024_S1024x512_S128x512_1_0_0_1_n_n none x (transpose S1024x512 [1, 0] w transposes_S512x1024_S1024x512_1_0)) (broadcastInDim S128x512 ![0, 1] bcast_S1x512_S128x512_0_1 (broadcastInDim S1x512 ![1] bcast_S512_S1x512_1 b))) (broadcastInDim S128x512 ![] bcast_S_S128x512 (constant S_ .f32 0x00000000#32))

/-- The scores of the first head. -/
def scoreP (x : FVec F S128x512 .f32) (w : FVec F S32x512 .f32) (b : FVec F S32 .f32) : FVec F S128x32 .f32 :=
  addf (Host.dotGeneral dot_S128x512_S512x32_S128x32_1_0_0_1_n_n none x (transpose S512x32 [1, 0] w transposes_S32x512_S512x32_1_0)) (broadcastInDim S128x32 ![0, 1] bcast_S1x32_S128x32_0_1 (broadcastInDim S1x32 ![1] bcast_S32_S1x32_1 b))

/-- The scores of the second head. -/
def scoreQ (x : FVec F S128x1024 .f32) (w : FVec F S2048x1024 .f32) (b : FVec F S2048 .f32) : FVec F S128x2048 .f32 :=
  addf (Host.dotGeneral dot_S128x1024_S1024x2048_S128x2048_1_0_0_1_n_n none x (transpose S1024x2048 [1, 0] w transposes_S2048x1024_S1024x2048_1_0)) (broadcastInDim S128x2048 ![0, 1] bcast_S1x2048_S128x2048_0_1 (broadcastInDim S1x2048 ![1] bcast_S2048_S1x2048_1 b))

/-- Where the first head's scores are masked: the degree is at least the number of places left. -/
def over (k : IVec S128x2048 1) : IVec S128x32 1 :=
  cmpi .sge (broadcastInDim S128x32 ![0, 1] bcast_S1x32_S128x32_0_1 (broadcastInDim S1x32 ![1] bcast_S32_S1x32_1 (iotaInDim S32 32 0))) (broadcastInDim S128x32 ![0, 1] bcast_S128x1_S128x32_0_1 (broadcastInDim S128x1 ![0] bcast_S128_S128x1_0 (Host.reduce IntOp.addi (extui 32 (noti k) natLt_1_32) (constantI S_ 32 0#32) reducesTo_S128x2048_S128_d1 h_S_)))

variable (a : Args F)

/-- The features. -/
def feat : FVec F S128x1024 .f32 :=
  norm (relu (dense2 (norm (relu (dense1 a.x a.w1 a.b1)) a.g1 a.be1) a.w2 a.b2)) a.g2 a.be2

/-- The first result. -/
def par : FVec F S128x32 .f32 :=
  select (over a.msk) (broadcastInDim S128x32 ![] bcast_S_S128x32 (id (constant S_ .f32 0xFF800000#32)))
    (scoreP (headP (feat a) a.wp1 a.bp1) a.wp2 a.bp2)

/-- The second result. -/
def pos : FVec F S128x2048 .f32 :=
  select a.msk (broadcastInDim S128x2048 ![] bcast_S_S128x2048 (id (constant S_ .f32 0xFF800000#32)))
    (scoreQ (relu (dense2 (feat a) a.wq1 a.bq1)) a.wq2 a.bq2)

/-- The arguments as a memory holds them. -/
def argsAt (m : (ℓ : Loc nD τ sig) → Buf (Elt F) ℓ) (c : Dev nD) : Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17)⟩

/-- The run's first result is the first result of the stages. -/
theorem v68_eq (m : (ℓ : Loc nD τ sig) → Buf (Elt F) ℓ) (c : Dev nD) : res_main_v68 m c = par (argsAt m c) := by
  unfold res_main_v68; rfl

/-- The run's second result is the second result of the stages. -/
theorem v80_eq (m : (ℓ : Loc nD τ sig) → Buf (Elt F) ℓ) (c : Dev nD) : res_main_v80 m c = pos (argsAt m c) := by
  unfold res_main_v80; rfl

end Cert.ReferenceIdeal.Hand
-- ==== Proof.RI.Entry.lean ====
/-
  The reference's results, entry by entry, over the extended reals: those of the network (Net.lean).
-/
module

public import proofs.«01_k».proof.Proof.RI.Stages
public import proofs.«01_k».proof.Proof.Net
public import Idealize.ShloMosaic.Lib.IndicatorCount

@[expose] public section

set_option maxRecDepth 16384

noncomputable section

namespace Cert.ReferenceIdeal.Hand

open Cert.ReferenceIdeal Cert.ReferenceIdeal.Gen
open Idealize.ShloMosaic Idealize.SL.Sem

/-- A dense layer from the features to the features, at a row and a column. -/
theorem dense2_at (x : FVec Ideal S128x1024 .f32) (w : FVec Ideal S1024x1024 .f32) (b : FVec Ideal S1024 .f32) (r : Fin 128) (c : Fin 1024) :
    dense2 (F := Ideal) x w b (ix2 r c) = Net.dense (fun r k => x (ix2 r k)) (fun c k => w (ix2 c k)) (fun c => b (ix1 c)) r c := by
  pointwise [dense2, row, Net.dense]

/-- The first dense layer, at a row and a column. -/
theorem dense1_at (x : FVec Ideal S128x4096 .f32) (w : FVec Ideal S1024x4096 .f32) (b : FVec Ideal S1024 .f32) (r : Fin 128) (c : Fin 1024) :
    dense1 (F := Ideal) x w b (ix2 r c) = Net.dense (fun r k => x (ix2 r k)) (fun c k => w (ix2 c k)) (fun c => b (ix1 c)) r c := by
  pointwise [dense1, row, Net.dense]

/-- The rectifier, at a row and a column. -/
theorem relu_at (x : FVec Ideal S128x1024 .f32) (r : Fin 128) (c : Fin 1024) :
    relu (F := Ideal) x (ix2 r c) = Net.relu (fun r c => x (ix2 r c)) r c := by
  pointwise [relu, Net.relu]

/-- The features less the mean, at a row and a column. -/
theorem cen_at (x : FVec Ideal S128x1024 .f32) (r : Fin 128) (c : Fin 1024) :
    cen (F := Ideal) x (ix2 r c) = Net.cen (fun r c => x (ix2 r c)) r c := by
  pointwise [cen, Net.cen, Net.len]

/-- The variance, at a row. -/
theorem var_at (x : FVec Ideal S128x1024 .f32) (r : Fin 128) :
    var (F := Ideal) x (ix2 r 0) = Net.var (fun r c => x (ix2 r c)) r := by
  have e : Ideal.ofBits .f32 0x44800000#32 - FloatOps.sitofp (F := Ideal) .f32 0#32 = Net.len := by
    rw [show FloatOps.sitofp (F := Ideal) .f32 0#32 = (((0 : ℝ) : EReal)) from congrArg (fun t : ℝ => (t : EReal)) (by simp), EReal.coe_zero, sub_zero]
    rfl
  pointwise [var, Net.var, cen_at]
  rw [e, if_pos Net.len_pos]

/-- The normalisation, at a row and a column. -/
theorem norm_at (x : FVec Ideal S128x1024 .f32) (g be : FVec Ideal S1024 .f32) (r : Fin 128) (c : Fin 1024) :
    norm (F := Ideal) x g be (ix2 r c) = Net.normDiv (fun r c => x (ix2 r c)) (fun c => g (ix1 c)) (fun c => be (ix1 c)) r c := by
  pointwise [norm, row, Net.normDiv, cen_at, var_at, Net.eps]

/-- The hidden layer of the first head, at a row and a column. -/
theorem headP_at (x : FVec Ideal S128x1024 .f32) (w : FVec Ideal S512x1024 .f32) (b : FVec Ideal S512 .f32) (r : Fin 128) (c : Fin 512) :
    headP (F := Ideal) x w b (ix2 r c) = Net.relu (Net.dense (fun r k => x (ix2 r k)) (fun c k => w (ix2 c k)) (fun c => b (ix1 c))) r c := by
  pointwise [headP, Net.relu, Net.dense]

/-- The scores of the first head, at a row and a column. -/
theorem scoreP_at (x : FVec Ideal S128x512 .f32) (w : FVec Ideal S32x512 .f32) (b : FVec Ideal S32 .f32) (r : Fin 128) (c : Fin 32) :
    scoreP (F := Ideal) x w b (ix2 r c) = Net.dense (fun r k => x (ix2 r k)) (fun c k => w (ix2 c k)) (fun c => b (ix1 c)) r c := by
  pointwise [scoreP, Net.dense]

/-- The scores of the second head, at a row and a column. -/
theorem scoreQ_at (x : FVec Ideal S128x1024 .f32) (w : FVec Ideal S2048x1024 .f32) (b : FVec Ideal S2048 .f32) (r : Fin 128) (c : Fin 2048) :
    scoreQ (F := Ideal) x w b (ix2 r c) = Net.dense (fun r k => x (ix2 r k)) (fun c k => w (ix2 c k)) (fun c => b (ix1 c)) r c := by
  pointwise [scoreQ, Net.dense]

/-- Where the first head's scores are masked, at a row and a column. -/
theorem over_at (k : IVec S128x2048 1) (r : Fin 128) (c : Fin 32) :
    over k (ix2 r c) = IntOp.cmpi .sge (BitVec.ofNat 32 c) (BitVec.ofNat 32 (Net.left (fun r i => k (ix2 r i)) r)) := by
  pointwise [over, Net.left]
  exact congrArg _ (IndicatorCount.fold_addi_setWidth_eq_card (fun i => ~~~(k (ix2 r i))) Finset.univ)

/-- The arguments as functions of row and column. -/
def params (a : Args Ideal) : Net.Params where
  x r k := a.x (ix2 r k)
  w1 c k := a.w1 (ix2 c k)
  b1 c := a.b1 (ix1 c)
  g1 c := a.g1 (ix1 c)
  be1 c := a.be1 (ix1 c)
  w2 c k := a.w2 (ix2 c k)
  b2 c := a.b2 (ix1 c)
  g2 c := a.g2 (ix1 c)
  be2 c := a.be2 (ix1 c)
  wp1 c k := a.wp1 (ix2 c k)
  bp1 c := a.bp1 (ix1 c)
  wp2 c k := a.wp2 (ix2 c k)
  bp2 c := a.bp2 (ix1 c)
  wq1 c k := a.wq1 (ix2 c k)
  bq1 c := a.bq1 (ix1 c)
  wq2 c k := a.wq2 (ix2 c k)
  bq2 c := a.bq2 (ix1 c)

variable (a : Args Ideal)

/-- The features, at a row and a column. -/
theorem feat_at (r : Fin 128) (c : Fin 1024) : feat a (ix2 r c) = Net.feat (params a) r c := by
  unfold feat Net.feat Net.feat1
  simp only [norm_at, relu_at, dense1_at, dense2_at, Net.normDiv_eq]
  rfl

/-- The first result, at a row and a column. -/
theorem par_at (r : Fin 128) (c : Fin 32) : par a (ix2 r c) = Net.par (params a) (fun r i => a.msk (ix2 r i)) r c := by
  pointwise [par, over_at, scoreP_at, headP_at, feat_at]
  rfl

/-- The second result, at a row and a column. -/
theorem pos_at (r : Fin 128) (c : Fin 2048) : pos a (ix2 r c) = Net.pos (params a) (fun r i => a.msk (ix2 r i)) r c := by
  pointwise [pos, scoreQ_at, relu_at, dense2_at, feat_at]
  rfl

end Cert.ReferenceIdeal.Hand
-- ==== Proof.Equal.lean ====
/-
  The kernel's results are the reference's, on arguments that agree: both are the network's (Net.lean), on one set of
  weights and under one mask.
-/
module

public import proofs.«01_k».proof.Proof.KI.Args
public import proofs.«01_k».proof.Proof.RI.Entry

@[expose] public section

set_option maxRecDepth 16384

noncomputable section

namespace Cert.Equal

open Idealize.ShloMosaic Idealize.SL.Sem
open Cert.KernelIdeal.Hand (opsAt window7 arg3_at arg4_at arg5_at arg7_at arg8_at arg9_at arg11_at arg13_at arg15_at arg17_at mask_at)
open Cert.ReferenceIdeal.Hand (argsAt)
open Cert.KernelIdeal.Gen

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs' arguments agree on a core. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable {m m'}

/-- Field `x` is argument 0 on both sides. -/
theorem x_eq {c : Dev Cert.KernelIdeal.nD} (h : Agree m m' c) : (opsAt m c).x = (argsAt m' c).x :=
  (V_main_arg0 m c).trans h.1.symm

/-- Field `w1` is argument 2 on both sides. -/
theorem w1_eq {c : Dev Cert.KernelIdeal.nD} (h : Agree m m' c) : (opsAt m c).w1 = (argsAt m' c).w1 :=
  (V_main_arg2 m c).trans h.2.2.1.symm

/-- Field `b1` is argument 3 on both sides. -/
theorem b1_eq {c : Dev Cert.KernelIdeal.nD} (h : Agree m m' c) (j) : (opsAt m c).b1 (ix2 0 j) = (argsAt m' c).b1 (ix1 j) :=
  (arg3_at m c j).trans (congrFun h.2.2.2.1.symm (ix1 j))

/-- Field `g1` is argument 4 on both sides. -/
theorem g1_eq {c : Dev Cert.KernelIdeal.nD} (h : Agree m m' c) (j) : (opsAt m c).g1 (ix2 0 j) = (argsAt m' c).g1 (ix1 j) :=
  (arg4_at m c j).trans (congrFun h.2.2.2.2.1.symm (ix1 j))

/-- Field `be1` is argument 5 on both sides. -/
theorem be1_eq {c : Dev Cert.KernelIdeal.nD} (h : Agree m m' c) (j) : (opsAt m c).be1 (ix2 0 j) = (argsAt m' c).be1 (ix1 j) :=
  (arg5_at m c j).trans (congrFun h.2.2.2.2.2.1.symm (ix1 j))

/-- Field `w2` is argument 6 on both sides. -/
theorem w2_eq {c : Dev Cert.KernelIdeal.nD} (h : Agree m m' c) : (opsAt m c).w2 = (argsAt m' c).w2 :=
  (V_main_arg6 m c).trans h.2.2.2.2.2.2.1.symm

/-- Field `b2` is argument 7 on both sides. -/
theorem b2_eq {c : Dev Cert.KernelIdeal.nD} (h : Agree m m' c) (j) : (opsAt m c).b2 (ix2 0 j) = (argsAt m' c).b2 (ix1 j) :=
  (arg7_at m c j).trans (congrFun h.2.2.2.2.2.2.2.1.symm (ix1 j))

/-- Field `g2` is argument 8 on both sides. -/
theorem g2_eq {c : Dev Cert.KernelIdeal.nD} (h : Agree m m' c) (j) : (opsAt m c).g2 (ix2 0 j) = (argsAt m' c).g2 (ix1 j) :=
  (arg8_at m c j).trans (congrFun h.2.2.2.2.2.2.2.2.1.symm (ix1 j))

/-- Field `be2` is argument 9 on both sides. -/
theorem be2_eq {c : Dev Cert.KernelIdeal.nD} (h : Agree m m' c) (j) : (opsAt m c).be2 (ix2 0 j) = (argsAt m' c).be2 (ix1 j) :=
  (arg9_at m c j).trans (congrFun h.2.2.2.2.2.2.2.2.2.1.symm (ix1 j))

/-- Field `wp1` is argument 10 on both sides. -/
theorem wp1_eq {c : Dev Cert.KernelIdeal.nD} (h : Agree m m' c) : (opsAt m c).wp1 = (argsAt m' c).wp1 :=
  (V_main_arg10 m c).trans h.2.2.2.2.2.2.2.2.2.2.1.symm

/-- Field `bp1` is argument 11 on both sides. -/
theorem bp1_eq {c : Dev Cert.KernelIdeal.nD} (h : Agree m m' c) (j) : (opsAt m c).bp1 (ix2 0 j) = (argsAt m' c).bp1 (ix1 j) :=
  (arg11_at m c j).trans (congrFun h.2.2.2.2.2.2.2.2.2.2.2.1.symm (ix1 j))

/-- Field `wp2` is argument 12 on both sides. -/
theorem wp2_eq {c : Dev Cert.KernelIdeal.nD} (h : Agree m m' c) : (opsAt m c).wp2 = (argsAt m' c).wp2 :=
  (window7 m c).trans ((V_main_arg12 m c).trans h.2.2.2.2.2.2.2.2.2.2.2.2.1.symm)

/-- Field `bp2` is argument 13 on both sides. -/
theorem bp2_eq {c : Dev Cert.KernelIdeal.nD} (h : Agree m m' c) (j) : (opsAt m c).bp2 (ix2 0 j) = (argsAt m' c).bp2 (ix1 j) :=
  (arg13_at m c j).trans (congrFun h.2.2.2.2.2.2.2.2.2.2.2.2.2.1.symm (ix1 j))

/-- Field `wq1` is argument 14 on both sides. -/
theorem wq1_eq {c : Dev Cert.KernelIdeal.nD} (h : Agree m m' c) : (opsAt m c).wq1 = (argsAt m' c).wq1 :=
  (V_main_arg14 m c).trans h.2.2.2.2.2.2.2.2.2.2.2.2.2.2.1.symm

/-- Field `bq1` is argument 15 on both sides. -/
theorem bq1_eq {c : Dev Cert.KernelIdeal.nD} (h : Agree m m' c) (j) : (opsAt m c).bq1 (ix2 0 j) = (argsAt m' c).bq1 (ix1 j) :=
  (arg15_at m c j).trans (congrFun h.2.2.2.2.2.2.2.2.2.2.2.2.2.2.2.1.symm (ix1 j))

/-- Field `wq2` is argument 16 on both sides. -/
theorem wq2_eq {c : Dev Cert.KernelIdeal.nD} (h : Agree m m' c) : (opsAt m c).wq2 = (argsAt m' c).wq2 :=
  (V_main_arg16 m c).trans h.2.2.2.2.2.2.2.2.2.2.2.2.2.2.2.2.1.symm

/-- Field `bq2` is argument 17 on both sides. -/
theorem bq2_eq {c : Dev Cert.KernelIdeal.nD} (h : Agree m m' c) (j) : (opsAt m c).bq2 (ix2 0 j) = (argsAt m' c).bq2 (ix1 j) :=
  (arg17_at m c j).trans (congrFun h.2.2.2.2.2.2.2.2.2.2.2.2.2.2.2.2.2.symm (ix1 j))

/-- The network's weights and input are the same on both sides. -/
theorem params_eq {c : Dev Cert.KernelIdeal.nD} (h : Agree m m' c) :
    Cert.KernelIdeal.Hand.params (opsAt m c) = Cert.ReferenceIdeal.Hand.params (argsAt m' c) := by
  unfold Cert.KernelIdeal.Hand.params Cert.ReferenceIdeal.Hand.params
  rw [x_eq h, w1_eq h, w2_eq h, wp1_eq h, wp2_eq h, wq1_eq h, wq2_eq h]
  simp only [b1_eq h, g1_eq h, be1_eq h, b2_eq h, g2_eq h, be2_eq h, bp1_eq h, bp2_eq h, bq1_eq h, bq2_eq h]

/-- The mask the kernel reads is the reference's mask, widened. -/
theorem mask_eq {c : Dev Cert.KernelIdeal.nD} (h : Agree m m' c) (r : Fin 128) (i : Fin 2048) :
    (opsAt m c).msk (ix2 r i) = ((argsAt m' c).msk (ix2 r i) : BitVec 1).setWidth 8 :=
  (mask_at m c r i).trans (congrArg (BitVec.setWidth 8) (congrFun h.2.1.symm (ix2 r i)))

/-- The first results are equal. -/
theorem par_eq {c : Dev Cert.KernelIdeal.nD} (h : Agree m m' c) :
    Cert.KernelIdeal.Hand.par (opsAt m c) = Cert.ReferenceIdeal.Hand.par (argsAt m' c) := by
  funext i
  rw [eq_ix2 i]
  refine (Cert.KernelIdeal.Hand.par_at _ (fun r i => (argsAt m' c).msk (ix2 r i)) (mask_eq h) _ _).trans ?_
  rw [params_eq h]
  exact (Cert.ReferenceIdeal.Hand.par_at _ _ _).symm

/-- The second results are equal. -/
theorem pos_eq {c : Dev Cert.KernelIdeal.nD} (h : Agree m m' c) :
    Cert.KernelIdeal.Hand.pos (opsAt m c) = Cert.ReferenceIdeal.Hand.pos (argsAt m' c) := by
  funext i
  rw [eq_ix2 i]
  refine (Cert.KernelIdeal.Hand.pos_at _ (fun r i => (argsAt m' c).msk (ix2 r i)) (mask_eq h) _ _).trans ?_
  rw [params_eq h]
  exact (Cert.ReferenceIdeal.Hand.pos_at _ _ _).symm

end Cert.Equal
-- ==== Proof.lean ====
/-
  The certificate. Both compiled kernels and the reference leave their arguments and their semaphores as they were, and over the
  extended reals the kernel's two results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.P.Frame
public import proofs.«01_k».proof.Proof.Equal

@[expose] public section

set_option maxRecDepth 16384

noncomputable section

namespace Cert.Proof

open Idealize.ShloMosaic Idealize.SL.Sem

/-- The kernel leaves its arguments as they were, and its semaphores at zero. -/
theorem frame_kernel : Cert.quiescent_Kernel (hKernel := Cert.Kernel.Gen.facts) := fun m ρ _ =>
  (θ_run (Cert.Kernel.defs (F := Bits)) _ _).mono (fun _ h => ⟨fun c => (h.1 c).2.2, h.2⟩) (Cert.Kernel.Hand.run_main (F := Bits) m ρ)

/-- The idealized kernel leaves its arguments as they were, and its semaphores at zero. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2.2, h.2⟩) (Cert.KernelIdeal.Hand.run_main (F := Ideal) m ρ)

/-- The reference leaves its arguments as they were; it has no semaphores. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- Over the extended reals the kernel's results are the reference's, on arguments that agree. -/
theorem values : Cert.algebraic_KernelIdeal_ReferenceIdeal (hKernelIdeal := Cert.KernelIdeal.Gen.facts) (hReferenceIdeal := Cert.ReferenceIdeal.Gen.facts) :=
  fun m ρ m' ρ' _ h =>
    ⟨fun c => Cert.KernelIdeal.Hand.par (Cert.KernelIdeal.Hand.opsAt m c), fun c => Cert.KernelIdeal.Hand.pos (Cert.KernelIdeal.Hand.opsAt m c),
      (θ_run (Cert.KernelIdeal.defs (F := Ideal)) _ _).mono (fun _ k => k.1) (Cert.KernelIdeal.Hand.run_main (F := Ideal) m ρ),
      (θ_run (Cert.ReferenceIdeal.defs (F := Ideal)) _ _).mono (fun _ k c =>
          ⟨(k c).1.trans ((Cert.ReferenceIdeal.Hand.v68_eq m' c).trans (Cert.Equal.par_eq (h c)).symm),
            (k c).2.1.trans ((Cert.ReferenceIdeal.Hand.v80_eq m' c).trans (Cert.Equal.pos_eq (h c)).symm), (k c).2.2⟩)
        (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, frame_kernel, frame_ideal, frame_reference, trivial, values⟩

end Cert.Proof
